-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_factors [hPre_finite_factors : Cert.Pre_finite_factors.Facts] (m : (ℓ : Loc Cert.KernelIdeal.nD Cert.KernelIdeal.τ Cert.KernelIdeal.sig) → Buf (Elt Ideal) ℓ) : Prop :=
  ∀ c : Dev Cert.KernelIdeal.nD,
    (Cert.Pre_finite_factors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_factors [hPre_finite_factors : Cert.Pre_finite_factors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_factors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_factors [hKernelIdeal : Cert.KernelIdeal.Facts] [hPre_finite_factors : Cert.Pre_finite_factors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_factors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_factors [hReferenceIdeal : Cert.ReferenceIdeal.Facts] [hPre_finite_factors : Cert.Pre_finite_factors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_factors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_dh" .f32 0x3DB504F3#32 (((Real.sqrt 128)⁻¹ : ℝ) : EReal)

def algebraic_KernelIdeal_ReferenceIdeal_pre_finite_factors [hKernelIdeal : Cert.KernelIdeal.Facts] [hReferenceIdeal : Cert.ReferenceIdeal.Facts] [hPre_finite_factors : Cert.Pre_finite_factors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_factors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_factors : Cert.Pre_finite_factors.Facts),
    quiescent_Kernel (hKernel := hKernel)
    ∧ quiescent_KernelIdeal (hKernelIdeal := hKernelIdeal)
    ∧ quiescent_KernelIdeal_pre_finite_factors (hKernelIdeal := hKernelIdeal) (hPre_finite_factors := hPre_finite_factors)
    ∧ quiescent_ReferenceIdeal (hReferenceIdeal := hReferenceIdeal)
    ∧ quiescent_ReferenceIdeal_pre_finite_factors (hReferenceIdeal := hReferenceIdeal) (hPre_finite_factors := hPre_finite_factors)
    ∧ preserves_Kernel_KernelIdeal
    ∧ algebraic_KernelIdeal_ReferenceIdeal_pre_finite_factors (hKernelIdeal := hKernelIdeal) (hReferenceIdeal := hReferenceIdeal) (hPre_finite_factors := hPre_finite_factors)
-- ==== Pre_finite_factors.lean ====
abbrev S1x2048x2048 : Shape := ⟨3, ![1, 2048, 2048]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S1x2048x2048 .f32) (main_arg1 : FVec F S2048x2048 .f32) (main_arg2 : FVec F S2048x2048 .f32) (main_arg3 : FVec F S2048x2048 .f32) (main_arg4 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S1x2048x2048 : Shape := ⟨3, ![1, 2048, 2048]⟩
abbrev S2048x2048 : Shape := ⟨2, ![2048, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16x1480x128 : Shape := ⟨3, ![16, 1480, 128]⟩
abbrev S16x512x128 : Shape := ⟨3, ![16, 512, 128]⟩
abbrev S16x2048x128 : Shape := ⟨3, ![16, 2048, 128]⟩
abbrev S2048x256 : Shape := ⟨2, ![2048, 256]⟩
abbrev S2x1480x128 : Shape := ⟨3, ![2, 1480, 128]⟩
abbrev S2x512x128 : Shape := ⟨3, ![2, 512, 128]⟩
abbrev S2x2048x128 : Shape := ⟨3, ![2, 2048, 128]⟩
abbrev S1480x128 : Shape := ⟨2, ![1480, 128]⟩
abbrev S1x1480x128 : Shape := ⟨3, ![1, 1480, 128]⟩
abbrev S1x2048x128 : Shape := ⟨3, ![1, 2048, 128]⟩
abbrev S512x128 : Shape := ⟨2, ![512, 128]⟩
abbrev S1x512x128 : Shape := ⟨3, ![1, 512, 128]⟩
abbrev S16x1479x512 : Shape := ⟨3, ![16, 1479, 512]⟩
abbrev S1x1479x512 : Shape := ⟨3, ![1, 1479, 512]⟩
abbrev S1480x512 : Shape := ⟨2, ![1480, 512]⟩
abbrev S1479x512 : Shape := ⟨2, ![1479, 512]⟩
abbrev S1x16x1479x512 : Shape := ⟨4, ![1, 16, 1479, 512]⟩
abbrev S1x16x1479 : Shape := ⟨3, ![1, 16, 1479]⟩
abbrev S1x16x1479x1 : Shape := ⟨4, ![1, 16, 1479, 1]⟩
abbrev S512 : Shape := ⟨1, ![512]⟩
abbrev S1x512 : Shape := ⟨2, ![1, 512]⟩
abbrev S512x512 : Shape := ⟨2, ![512, 512]⟩
abbrev S1 : Shape := ⟨1, ![1]⟩
abbrev S1535 : Shape := ⟨1, ![1535]⟩
abbrev S1x2048 : Shape := ⟨2, ![1, 2048]⟩
abbrev S8x2048 : Shape := ⟨2, ![8, 2048]⟩
abbrev S512x2048 : Shape := ⟨2, ![512, 2048]⟩
abbrev S8x512 : Shape := ⟨2, ![8, 512]⟩
abbrev S512x1 : Shape := ⟨2, ![512, 1]⟩
abbrev S1x1024x128 : Shape := ⟨3, ![1, 1024, 128]⟩
abbrev S8x1024 : Shape := ⟨2, ![8, 1024]⟩
abbrev S512x1024 : Shape := ⟨2, ![512, 1024]⟩
abbrev S1x1024 : Shape := ⟨2, ![1, 1024]⟩
abbrev S1024x128 : Shape := ⟨2, ![1024, 128]⟩
abbrev S1x1536x128 : Shape := ⟨3, ![1, 1536, 128]⟩
abbrev S8x1536 : Shape := ⟨2, ![8, 1536]⟩
abbrev S512x1536 : Shape := ⟨2, ![512, 1536]⟩
abbrev S1x1536 : Shape := ⟨2, ![1, 1536]⟩
abbrev S1536x128 : Shape := ⟨2, ![1536, 128]⟩

abbrev nBuf : Space → Nat
  | .hbm => 78
  | .vmem => 72
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .f32⟩
  | .hbm, ⟨23, _⟩ => ⟨S2048x1, .f32⟩
  | .hbm, ⟨24, _⟩ => ⟨S1x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x2048, .bf16⟩
  | .hbm, ⟨32, _⟩ => ⟨S16x1480x128, .f32⟩
  | .hbm, ⟨33, _⟩ => ⟨S16x512x128, .f32⟩
  | .hbm, ⟨34, _⟩ => ⟨S16x2048x128, .bf16⟩
  | .hbm, ⟨35, _⟩ => ⟨S16x2048x128, .bf16⟩
  | .hbm, ⟨36, _⟩ => ⟨S16x2048x128, .bf16⟩
  | .hbm, ⟨37, _⟩ => ⟨S16x1479x512, .f32⟩
  | .hbm, ⟨38, _⟩ => ⟨S1x16x1479x512, .f32⟩
  | .hbm, ⟨39, _⟩ => ⟨S_, .f32⟩
  | .hbm, ⟨40, _⟩ => ⟨S1x16x1479, .f32⟩
  | .hbm, ⟨41, _⟩ => ⟨S_, .f32⟩
  | .hbm, ⟨42, _⟩ => ⟨S1x16x1479, .f32⟩
  | .hbm, ⟨43, _⟩ => ⟨S1x16x1479, .f32⟩
  | .hbm, ⟨44, _⟩ => ⟨S1x16x1479x1, .f32⟩
  | .hbm, ⟨45, _⟩ => ⟨S1x16x1479x512, .f32⟩
  | .hbm, ⟨46, _⟩ => ⟨S1x16x1479x512, .f32⟩
  | .hbm, ⟨47, _⟩ => ⟨S1x16x1479x512, .f32⟩
  | .hbm, ⟨48, _⟩ => ⟨S_, .f32⟩
  | .hbm, ⟨49, _⟩ => ⟨S1x16x1479, .f32⟩
  | .hbm, ⟨50, _⟩ => ⟨S1x16x1479x1, .f32⟩
  | .hbm, ⟨51, _⟩ => ⟨S1x16x1479x512, .f32⟩
  | .hbm, ⟨52, _⟩ => ⟨S1x16x1479x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S1x512, .i32⟩
  | .hbm, ⟨57, _⟩ => ⟨S2048, .i32⟩
  | .hbm, ⟨58, _⟩ => ⟨S512, .i32⟩
  | .hbm, ⟨59, _⟩ => ⟨S_, .i32⟩
  | .hbm, ⟨60, _⟩ => ⟨S512, .i32⟩
  | .hbm, ⟨61, _⟩ => ⟨S512, .i1⟩
  | .hbm, ⟨62, _⟩ => ⟨S512, .i32⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S1, .i32⟩
  | .hbm, ⟨67, _⟩ => ⟨S1535, .i32⟩
  | .hbm, ⟨68, _⟩ => ⟨S2048, .i32⟩
  | .hbm, ⟨69, _⟩ => ⟨S1x2048, .i32⟩
  | .hbm, ⟨70, _⟩ => ⟨S8x2048, .i32⟩
  | .hbm, ⟨71, _⟩ => ⟨S512x2048, .f32⟩
  | .hbm, ⟨72, _⟩ => ⟨S512x2048, .f32⟩
  | .hbm, ⟨73, _⟩ => ⟨S512x2048, .f32⟩
  | .hbm, ⟨74, _⟩ => ⟨S512x2048, .f32⟩
  | .hbm, ⟨75, _⟩ => ⟨S2048x2048, .f32⟩
  | .hbm, ⟨76, _⟩ => ⟨S2048x2048, .f32⟩
  | .hbm, ⟨77, _⟩ => ⟨S1x2048x2048, .f32⟩
  | .local _ .vmem, ⟨0, _⟩ => ⟨S2048x2048, .bf16⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x128, .f32⟩
  | .local _ .vmem, ⟨8, _⟩ => ⟨S2048x128, .f32⟩
  | .local _ .vmem, ⟨9, _⟩ => ⟨S2x1480x128, .f32⟩
  | .local _ .vmem, ⟨10, _⟩ => ⟨S2x1480x128, .f32⟩
  | .local _ .vmem, ⟨11, _⟩ => ⟨S2x512x128, .f32⟩
  | .local _ .vmem, ⟨12, _⟩ => ⟨S2x512x128, .f32⟩
  | .local _ .vmem, ⟨13, _⟩ => ⟨S2x2048x128, .bf16⟩
  | .local _ .vmem, ⟨14, _⟩ => ⟨S2x2048x128, .bf16⟩
  | .local _ .vmem, ⟨15, _⟩ => ⟨S2x2048x128, .bf16⟩
  | .local _ .vmem, ⟨16, _⟩ => ⟨S2x2048x128, .bf16⟩
  | .local _ .vmem, ⟨17, _⟩ => ⟨S2x2048x128, .bf16⟩
  | .local _ .vmem, ⟨18, _⟩ => ⟨S2x2048x128, .bf16⟩
  | .local _ .vmem, ⟨19, _⟩ => ⟨S1x1480x128, .f32⟩
  | .local _ .vmem, ⟨20, _⟩ => ⟨S1x1480x128, .f32⟩
  | .local _ .vmem, ⟨21, _⟩ => ⟨S1x512x128, .f32⟩
  | .local _ .vmem, ⟨22, _⟩ => ⟨S1x512x128, .f32⟩
  | .local _ .vmem, ⟨23, _⟩ => ⟨S1x1479x512, .f32⟩
  | .local _ .vmem, ⟨24, _⟩ => ⟨S1x1479x512, .f32⟩
  | .local _ .vmem, ⟨25, _⟩ => ⟨S1x512, .f32⟩
  | .local _ .vmem, ⟨26, _⟩ => ⟨S1x512, .i32⟩
  | .local _ .vmem, ⟨27, _⟩ => ⟨S1x512x128, .bf16⟩
  | .local _ .vmem, ⟨28, _⟩ => ⟨S1x512x128, .bf16⟩
  | .local _ .vmem, ⟨29, _⟩ => ⟨S1x512x128, .bf16⟩
  | .local _ .vmem, ⟨30, _⟩ => ⟨S1x512x128, .bf16⟩
  | .local _ .vmem, ⟨31, _⟩ => ⟨S1x512x128, .bf16⟩
  | .local _ .vmem, ⟨32, _⟩ => ⟨S1x512x128, .bf16⟩
  | .local _ .vmem, ⟨33, _⟩ => ⟨S8x512, .i32⟩
  | .local _ .vmem, ⟨34, _⟩ => ⟨S512x128, .f32⟩
  | .local _ .vmem, ⟨35, _⟩ => ⟨S512x128, .f32⟩
  | .local _ .vmem, ⟨36, _⟩ => ⟨S512x512, .f32⟩
  | .local _ .vmem, ⟨37, _⟩ => ⟨S1x512x128, .bf16⟩
  | .local _ .vmem, ⟨38, _⟩ => ⟨S1x512x128, .bf16⟩
  | .local _ .vmem, ⟨39, _⟩ => ⟨S1x1024x128, .bf16⟩
  | .local _ .vmem, ⟨40, _⟩ => ⟨S1x1024x128, .bf16⟩
  | .local _ .vmem, ⟨41, _⟩ => ⟨S1x1024x128, .bf16⟩
  | .local _ .vmem, ⟨42, _⟩ => ⟨S1x1024x128, .bf16⟩
  | .local _ .vmem, ⟨43, _⟩ => ⟨S8x1024, .i32⟩
  | .local _ .vmem, ⟨44, _⟩ => ⟨S512x128, .f32⟩
  | .local _ .vmem, ⟨45, _⟩ => ⟨S512x128, .f32⟩
  | .local _ .vmem, ⟨46, _⟩ => ⟨S512x1024, .f32⟩
  | .local _ .vmem, ⟨47, _⟩ => ⟨S1x512x128, .bf16⟩
  | .local _ .vmem, ⟨48, _⟩ => ⟨S1x512x128, .bf16⟩
  | .local _ .vmem, ⟨49, _⟩ => ⟨S1x1536x128, .bf16⟩
  | .local _ .vmem, ⟨50, _⟩ => ⟨S1x1536x128, .bf16⟩
  | .local _ .vmem, ⟨51, _⟩ => ⟨S1x1536x128, .bf16⟩
  | .local _ .vmem, ⟨52, _⟩ => ⟨S1x1536x128, .bf16⟩
  | .local _ .vmem, ⟨53, _⟩ => ⟨S8x1536, .i32⟩
  | .local _ .vmem, ⟨54, _⟩ => ⟨S512x128, .f32⟩
  | .local _ .vmem, ⟨55, _⟩ => ⟨S512x128, .f32⟩
  | .local _ .vmem, ⟨56, _⟩ => ⟨S512x1536, .f32⟩
  | .local _ .vmem, ⟨57, _⟩ => ⟨S1x512x128, .bf16⟩
  | .local _ .vmem, ⟨58, _⟩ => ⟨S1x512x128, .bf16⟩
  | .local _ .vmem, ⟨59, _⟩ => ⟨S1x2048x128, .bf16⟩
  | .local _ .vmem, ⟨60, _⟩ => ⟨S1x2048x128, .bf16⟩
  | .local _ .vmem, ⟨61, _⟩ => ⟨S1x2048x128, .bf16⟩
  | .local _ .vmem, ⟨62, _⟩ => ⟨S1x2048x128, .bf16⟩
  | .local _ .vmem, ⟨63, _⟩ => ⟨S8x2048, .i32⟩
  | .local _ .vmem, ⟨64, _⟩ => ⟨S512x128, .f32⟩
  | .local _ .vmem, ⟨65, _⟩ => ⟨S512x128, .f32⟩
  | .local _ .vmem, ⟨66, _⟩ => ⟨S512x2048, .f32⟩
  | .local _ .vmem, ⟨67, _⟩ => ⟨S512x2048, .f32⟩
  | .local _ .vmem, ⟨68, _⟩ => ⟨S512x2048, .f32⟩
  | .local _ .vmem, ⟨69, _⟩ => ⟨S2048x2048, .f32⟩
  | .local _ .vmem, ⟨70, _⟩ => ⟨S512x2048, .f32⟩
  | .local _ .vmem, ⟨71, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc2_stg0_0 : Ref sig .tc := ⟨.vmem, 25, rfl⟩
abbrev cc2_stg1_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc4_scratch0 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg4_1 : Ref sig .tc := ⟨.vmem, 55, rfl⟩
abbrev cc5_scratch0 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg4_1 : Ref sig .tc := ⟨.vmem, 65, rfl⟩
abbrev cc6_scratch0 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg2_0 : Ref sig .tc := ⟨.vmem, 70, rfl⟩
abbrev cc7_stg2_1 : Ref sig .tc := ⟨.vmem, 71, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc2_sem0_0 : DmaSem sig := 25
abbrev cc2_sem1_0 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem4_0 : DmaSem sig := 61
abbrev cc6_sem4_1 : DmaSem sig := 62
abbrev cc7_sem0_0 : DmaSem sig := 63
abbrev cc7_sem0_1 : DmaSem sig := 64
abbrev cc7_sem1_0 : DmaSem sig := 65
abbrev cc7_sem2_0 : DmaSem sig := 66
abbrev cc7_sem2_1 : DmaSem sig := 67

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1480x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1480x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1479x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S1x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x512 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S8x512 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S1x512x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1024x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S8x1024 .i32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S1x512x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1536x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1536x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S8x1536 .i32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![16], ![false]⟩

def cc6_transform_0 (i : grid6.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S1x512x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x2048x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x2048x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S8x2048 .i32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x2048 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]
-- ==== KernelIdeal.lean ====
variable {F : FTy → Type} [FloatOps F] [Named F]
def κ : String → Option EReal := fun
  | "inv_sqrt_dh" => some (((Real.sqrt 128)⁻¹ : ℝ) : EReal)
  | _ => none
-- ==== ReferenceIdeal.lean ====
abbrev S1x2048x2048 : Shape := ⟨3, ![1, 2048, 2048]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1x2048x128 : Shape := ⟨4, ![1, 1, 2048, 128]⟩
abbrev S1x16x2048x64 : Shape := ⟨4, ![1, 16, 2048, 64]⟩
abbrev S1x16x1479x128 : Shape := ⟨4, ![1, 16, 1479, 128]⟩
abbrev S1x16x512x128 : Shape := ⟨4, ![1, 16, 512, 128]⟩
abbrev S1x16x1479x512 : Shape := ⟨4, ![1, 16, 1479, 512]⟩
abbrev S1x16x1479 : Shape := ⟨3, ![1, 16, 1479]⟩
abbrev S1x16x1479x1 : Shape := ⟨4, ![1, 16, 1479, 1]⟩
abbrev S512 : Shape := ⟨1, ![512]⟩
abbrev S256 : Shape := ⟨1, ![256]⟩
abbrev S1 : Shape := ⟨1, ![1]⟩
abbrev S1535 : Shape := ⟨1, ![1535]⟩
abbrev S1792 : Shape := ⟨1, ![1792]⟩
abbrev S1792x1 : Shape := ⟨2, ![1792, 1]⟩
abbrev S1x1 : Shape := ⟨2, ![1, 1]⟩
abbrev S1x16x1792x128 : Shape := ⟨4, ![1, 16, 1792, 128]⟩
abbrev S1x16x2048x1792 : Shape := ⟨4, ![1, 16, 2048, 1792]⟩
abbrev S1x1792 : Shape := ⟨2, ![1, 1792]⟩
abbrev S2048x1792 : Shape := ⟨2, ![2048, 1792]⟩
abbrev S1x1x2048x1792 : Shape := ⟨4, ![1, 1, 2048, 1792]⟩
abbrev S1x16x2048 : Shape := ⟨3, ![1, 16, 2048]⟩
abbrev S1x16x2048x1 : Shape := ⟨4, ![1, 16, 2048, 1]⟩

abbrev nBuf : Space → Nat
  | .hbm => 180
  | .vmem => 0
  | .smem => 0
  | _ => 0

abbrev hbmTy0_0 (i : Nat) : BufTy := match i % 128 with
  | 0 => ⟨S1x2048x2048, .f32⟩
  | 1 => ⟨S2048x2048, .f32⟩
  | 2 => ⟨S2048x2048, .f32⟩
  | 3 => ⟨S2048x2048, .f32⟩
  | 4 => ⟨S2048x2048, .f32⟩
  | 5 => ⟨S1x2048x2048, .f32⟩
  | 6 => ⟨S1x2048x16x128, .f32⟩
  | 7 => ⟨S1x16x2048x128, .f32⟩
  | 8 => ⟨S1x2048x2048, .f32⟩
  | 9 => ⟨S1x2048x16x128, .f32⟩
  | 10 => ⟨S1x16x2048x128, .f32⟩
  | 11 => ⟨S1x2048x2048, .f32⟩
  | 12 => ⟨S1x2048x16x128, .f32⟩
  | 13 => ⟨S1x16x2048x128, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S2048, .f32⟩
  | 31 => ⟨S2048x1, .f32⟩
  | 32 => ⟨S1x64, .f32⟩
  | 33 => ⟨S2048x64, .f32⟩
  | 34 => ⟨S2048x64, .f32⟩
  | 35 => ⟨S2048x64, .f32⟩
  | 36 => ⟨S2048x128, .f32⟩
  | 37 => ⟨S2048x128, .f32⟩
  | 38 => ⟨S2048x128, .f32⟩
  | 39 => ⟨S1x1x2048x128, .f32⟩
  | 40 => ⟨S1x16x2048x128, .f32⟩
  | 41 => ⟨S1x16x2048x128, .f32⟩
  | 42 => ⟨S1x16x2048x64, .f32⟩
  | 43 => ⟨S1x16x2048x64, .f32⟩
  | 44 => ⟨S1x16x2048x64, .f32⟩
  | 45 => ⟨S1x16x2048x128, .f32⟩
  | 46 => ⟨S1x1x2048x128, .f32⟩
  | 47 => ⟨S1x16x2048x128, .f32⟩
  | 48 => ⟨S1x16x2048x128, .f32⟩
  | 49 => ⟨S1x16x2048x128, .f32⟩
  | 50 => ⟨S1x1x2048x128, .f32⟩
  | 51 => ⟨S1x16x2048x128, .f32⟩
  | 52 => ⟨S1x16x2048x128, .f32⟩
  | 53 => ⟨S1x16x2048x64, .f32⟩
  | 54 => ⟨S1x16x2048x64, .f32⟩
  | 55 => ⟨S1x16x2048x64, .f32⟩
  | 56 => ⟨S1x16x2048x128, .f32⟩
  | 57 => ⟨S1x1x2048x128, .f32⟩
  | 58 => ⟨S1x16x2048x128, .f32⟩
  | 59 => ⟨S1x16x2048x128, .f32⟩
  | 60 => ⟨S1x16x2048x128, .f32⟩
  | 61 => ⟨S_, .f32⟩
  | 62 => ⟨S_, .f32⟩
  | 63 => ⟨S_, .f32⟩
  | 64 => ⟨S_, .f32⟩
  | 65 => ⟨S1x16x1479x128, .f32⟩
  | 66 => ⟨S1x16x512x128, .f32⟩
  | 67 => ⟨S1x16x1479x512, .f32⟩
  | 68 => ⟨S1x16x1479x512, .f32⟩
  | 69 => ⟨S1x16x1479x512, .f32⟩
  | 70 => ⟨S_, .f32⟩
  | 71 => ⟨S1x16x1479, .f32⟩
  | 72 => ⟨S_, .f32⟩
  | 73 => ⟨S1x16x1479, .f32⟩
  | 74 => ⟨S1x16x1479, .f32⟩
  | 75 => ⟨S1x16x1479x1, .f32⟩
  | 76 => ⟨S1x16x1479x512, .f32⟩
  | 77 => ⟨S1x16x1479x512, .f32⟩
  | 78 => ⟨S1x16x1479x512, .f32⟩
  | 79 => ⟨S_, .f32⟩
  | 80 => ⟨S1x16x1479, .f32⟩
  | 81 => ⟨S1x16x1479x1, .f32⟩
  | 82 => ⟨S1x16x1479x512, .f32⟩
  | 83 => ⟨S1x16x1479x512, .f32⟩
  | 84 => ⟨S_, .f32⟩
  | 85 => ⟨S512, .f32⟩
  | 86 => ⟨S256, .f32⟩
  | 87 => ⟨S256, .i32⟩
  | 88 => ⟨S256, .i32⟩
  | 89 => ⟨S1, .i32⟩
  | 90 => ⟨S_, .i32⟩
  | 91 => ⟨S256, .i32⟩
  | 92 => ⟨S256, .i32⟩
  | 93 => ⟨S1535, .i32⟩
  | 94 => ⟨S_, .i32⟩
  | 95 => ⟨S1535, .i32⟩
  | 96 => ⟨S1535, .i32⟩
  | 97 => ⟨S1792, .i32⟩
  | 98 => ⟨S_, .i32⟩
  | 99 => ⟨S1792, .i32⟩
  | 100 => ⟨S1792, .i1⟩
  | 101 => ⟨S_, .i32⟩
  | 102 => ⟨S1792, .i32⟩
  | 103 => ⟨S1792, .i32⟩
  | 104 => ⟨S1792, .i32⟩
  | 105 => ⟨S1792x1, .i32⟩
  | 106 => ⟨S1, .i32⟩
  | 107 => ⟨S_, .i32⟩
  | 108 => ⟨S1792x1, .i32⟩
  | 109 => ⟨S1792x1, .i1⟩
  | 110 => ⟨S1x1, .i32⟩
  | 111 => ⟨S1792x1, .i32⟩
  | 112 => ⟨S1792x1, .i1⟩
  | 113 => ⟨S1792x1, .i1⟩
  | 114 => ⟨S_, .i1⟩
  | 115 => ⟨S1792, .i1⟩
  | 116 => ⟨S1x16x1792x128, .f32⟩
  | 117 => ⟨S1x16x1792x128, .i1⟩
  | 118 => ⟨S_, .f32⟩
  | 119 => ⟨S1x16x1792x128, .f32⟩
  | 120 => ⟨S1x16x1792x128, .f32⟩
  | 121 => ⟨S_, .i32⟩
  | 122 => ⟨S1792, .i32⟩
  | 123 => ⟨S1792, .i1⟩
  | 124 => ⟨S_, .i32⟩
  | 125 => ⟨S1792, .i32⟩
  | 126 => ⟨S1792, .i32⟩
  | 127 => ⟨S1792, .i32⟩
  | _ => ⟨S1x2048x2048, .f32⟩

abbrev hbmTy0_1 (i : Nat) : BufTy := match i % 128 with
  | 0 => ⟨S1792x1, .i32⟩
  | 1 => ⟨S1, .i32⟩
  | 2 => ⟨S_, .i32⟩
  | 3 => ⟨S1792x1, .i32⟩
  | 4 => ⟨S1792x1, .i1⟩
  | 5 => ⟨S1x1, .i32⟩
  | 6 => ⟨S1792x1, .i32⟩
  | 7 => ⟨S1792x1, .i1⟩
  | 8 => ⟨S1792x1, .i1⟩
  | 9 => ⟨S_, .i1⟩
  | 10 => ⟨S1792, .i1⟩
  | 11 => ⟨S1x16x1792x128, .f32⟩
  | 12 => ⟨S1x16x1792x128, .i1⟩
  | 13 => ⟨S_, .f32⟩
  | 14 => ⟨S1x16x1792x128, .f32⟩
  | 15 => ⟨S1x16x1792x128, .f32⟩
  | 16 => ⟨S1x16x2048x1792, .f32⟩
  | 17 => ⟨S1x16x2048x1792, .f32⟩
  | 18 => ⟨S1x16x2048x1792, .f32⟩
  | 19 => ⟨S1x1792, .i32⟩
  | 20 => ⟨S2048, .i32⟩
  | 21 => ⟨S2048x1, .i32⟩
  | 22 => ⟨S2048x1792, .i32⟩
  | 23 => ⟨S2048x1792, .i32⟩
  | 24 => ⟨S2048x1792, .i1⟩
  | 25 => ⟨S_, .f32⟩
  | 26 => ⟨S_, .f32⟩
  | 27 => ⟨S2048x1792, .f32⟩
  | 28 => ⟨S2048x1792, .f32⟩
  | 29 => ⟨S2048x1792, .f32⟩
  | 30 => ⟨S1x1x2048x1792, .f32⟩
  | 31 => ⟨S1x1x2048x1792, .f32⟩
  | 32 => ⟨S1x16x2048x1792, .f32⟩
  | 33 => ⟨S1x16x2048x1792, .f32⟩
  | 34 => ⟨S_, .f32⟩
  | 35 => ⟨S1x16x2048, .f32⟩
  | 36 => ⟨S_, .f32⟩
  | 37 => ⟨S1x16x2048, .f32⟩
  | 38 => ⟨S1x16x2048, .f32⟩
  | 39 => ⟨S1x16x2048x1, .f32⟩
  | 40 => ⟨S1x16x2048x1792, .f32⟩
  | 41 => ⟨S1x16x2048x1792, .f32⟩
  | 42 => ⟨S1x16x2048x1792, .f32⟩
  | 43 => ⟨S_, .f32⟩
  | 44 => ⟨S1x16x2048, .f32⟩
  | 45 => ⟨S1x16x2048x1, .f32⟩
  | 46 => ⟨S1x16x2048x1792, .f32⟩
  | 47 => ⟨S1x16x2048x1792, .f32⟩
  | 48 => ⟨S1x16x2048x128, .f32⟩
  | 49 => ⟨S1x2048x16x128, .f32⟩
  | 50 => ⟨S1x2048x2048, .f32⟩
  | 51 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_values : Ref sig .tc := ⟨.hbm, 86, rfl⟩
abbrev main_indices : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_10 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_call1_c : Ref sig .tc := ⟨.hbm, 98, rfl⟩
abbrev main_call1_v0 : Ref sig .tc := ⟨.hbm, 99, rfl⟩
abbrev main_call1_v1 : Ref sig .tc := ⟨.hbm, 100, rfl⟩
abbrev main_call1_c_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_c_1 : Ref sig .tc := ⟨.hbm, 106, rfl⟩
abbrev main_call1_c_2 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_c_3 : Ref sig .tc := ⟨.hbm, 114, rfl⟩
abbrev main_call1_v12 : Ref sig .tc := ⟨.hbm, 115, rfl⟩
abbrev main_call1_v13 : Ref sig .tc := ⟨.hbm, 116, rfl⟩
abbrev main_call1_v14 : Ref sig .tc := ⟨.hbm, 117, rfl⟩
abbrev main_call1_cst : Ref sig .tc := ⟨.hbm, 118, rfl⟩
abbrev main_call1_v15 : Ref sig .tc := ⟨.hbm, 119, rfl⟩
abbrev main_v78 : Ref sig .tc := ⟨.hbm, 120, rfl⟩
abbrev main_call2_c : Ref sig .tc := ⟨.hbm, 121, rfl⟩
abbrev main_call2_v0 : Ref sig .tc := ⟨.hbm, 122, rfl⟩
abbrev main_call2_v1 : Ref sig .tc := ⟨.hbm, 123, rfl⟩
abbrev main_call2_c_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_c_1 : Ref sig .tc := ⟨.hbm, 129, rfl⟩
abbrev main_call2_c_2 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_c_3 : Ref sig .tc := ⟨.hbm, 137, rfl⟩
abbrev main_call2_v12 : Ref sig .tc := ⟨.hbm, 138, rfl⟩
abbrev main_call2_v13 : Ref sig .tc := ⟨.hbm, 139, rfl⟩
abbrev main_call2_v14 : Ref sig .tc := ⟨.hbm, 140, rfl⟩
abbrev main_call2_cst : Ref sig .tc := ⟨.hbm, 141, rfl⟩
abbrev main_call2_v15 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_11 : Ref sig .tc := ⟨.hbm, 153, rfl⟩
abbrev main_cst_12 : Ref sig .tc := ⟨.hbm, 154, rfl⟩
abbrev main_call3_v0 : Ref sig .tc := ⟨.hbm, 155, rfl⟩
abbrev main_call3_v1 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_cst_13 : Ref sig .tc := ⟨.hbm, 162, rfl⟩
abbrev main_v94 : Ref sig .tc := ⟨.hbm, 163, rfl⟩
abbrev main_cst_14 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_15 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩

abbrev nD : Nat := 1
abbrev τ : Topo := Topo.v7x

variable {F : FTy → Type} [FloatOps F]
-- ==== Proof.KernelIdeal.Body0.lean ====
/- Region 0 (the projections with their rotary embedding): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__qkv_rope_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): the library's `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): the library's `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): the library's `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): the library's `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): the library's `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x2048 := Rect.unit (s := S2048x2048) ![0, 0] S2048x2048.size inb_S2048x2048_S2048x2048_0_0
abbrev r0_1 : Rect S2048x128 := Rect.unit (s := S2048x128) ![0, 0] S2048x128.size inb_S2048x128_S2048x128_0_0
abbrev r0_2 : Rect S2048x256 := Rect.unit (s := S2048x256) ![0, 0] S2048x256.size inb_S2048x256_S2048x256_0_0
abbrev r0_3 : Rect S2x1480x128 := Rect.unit (s := S2x1480x128) ![0, 0, 0] S1x1480x128.size inb_S2x1480x128_S1x1480x128_0_0_0
abbrev r0_4 : Rect S2x2048x128 := Rect.unit (s := S2x2048x128) ![0, 0, 0] S1x2048x128.size inb_S2x2048x128_S1x2048x128_0_0_0
abbrev r0_5 : Rect S2x1480x128 := Rect.unit (s := S2x1480x128) ![1, 0, 0] S1x1480x128.size inb_S2x1480x128_S1x1480x128_1_0_0
abbrev r0_6 : Rect S2x2048x128 := Rect.unit (s := S2x2048x128) ![1, 0, 0] S1x2048x128.size inb_S2x2048x128_S1x2048x128_1_0_0
abbrev r0_7 : Rect S2x512x128 := Rect.unit (s := S2x512x128) ![0, 0, 0] S1x512x128.size inb_S2x512x128_S1x512x128_0_0_0
abbrev r0_8 : Rect S2x512x128 := Rect.unit (s := S2x512x128) ![1, 0, 0] S1x512x128.size inb_S2x512x128_S1x512x128_1_0_0

/-! ## What the body leaves in each output window's buffer -/

/-! ### Values of the body that the stores' payloads, spelt out, would write more than once

    Each is a vector the body binds (often a part call's result), stated over the input windows' blocks and
    numbered on from the skeleton's payload functions (`k0_pay23` …, after `k0_pay22`), so that
    `out0_W` and the values after it name it instead of spelling it out (`unfold_out out0_W` opens a canon
    with them, `unfold_payloads` opens them with the payloads); the comment after each is the printed function's
    name for the value (a count appended where that name is bound again). -/

/-- A value that the first kernel stores, of what it has read. -/
def k0_pay23 (x0 : Vec F S2048x2048 .bf16) (x1 : Vec F S2048x256 .f32) (x2 : Vec F S2048x256 .f32) (x3 : Vec F S2048x256 .f32) (x4 : Vec F S2048x128 .f32) (x5 : Vec F S2048x128 .f32) : FVec F S2048x2048 .bf16 :=
  k0_pay5 (View.ld x0 r0_0) -- `v1`
/-- A value that the first kernel stores, of what it has read. -/
def k0_pay24 (x0 : Vec F S2048x2048 .bf16) (x1 : Vec F S2048x256 .f32) (x2 : Vec F S2048x256 .f32) (x3 : Vec F S2048x256 .f32) (x4 : Vec F S2048x128 .f32) (x5 : Vec F S2048x128 .f32) : FVec F S2048x128 .f32 :=
  k0_pay6 (View.ld x4 r0_1) -- `v3`
/-- A value that the first kernel stores, of what it has read. -/
def k0_pay25 (x0 : Vec F S2048x2048 .bf16) (x1 : Vec F S2048x256 .f32) (x2 : Vec F S2048x256 .f32) (x3 : Vec F S2048x256 .f32) (x4 : Vec F S2048x128 .f32) (x5 : Vec F S2048x128 .f32) : FVec F S2048x128 .f32 :=
  k0_pay7 (View.ld x5 r0_1) -- `v10`

/-- Window 6's staging buffer after the body, from the input windows' blocks: its 2 stores as pieces, LAST
    FIRST. -/
def out0_6 (x0 : Vec F S2048x2048 .bf16) (x1 : Vec F S2048x256 .f32) (x2 : Vec F S2048x256 .f32) (x3 : Vec F S2048x256 .f32) (x4 : Vec F S2048x128 .f32) (x5 : Vec F S2048x128 .f32) : Vec F S2x1480x128 .f32 :=
  View.canon [⟨r0_5, k0_pay14 (k0_pay13 (View.ld x0 r0_0) (View.ld x4 r0_1) (View.ld x5 r0_1) (View.ld x1 r0_2))⟩,
    ⟨r0_3, k0_pay10 (View.ld x0 r0_0) (View.ld x4 r0_1) (View.ld x5 r0_1) (View.ld x1 r0_2)⟩]

/-- Its stores tile the buffer (checked by evaluation), so they cover it. -/
theorem cover0_6 (p0 : Vec F S1x1480x128 .f32) (p1 : Vec F S1x1480x128 .f32) (y : S2x1480x128.Idx) :
    ∃ pc ∈ ([⟨r0_5, p0⟩, ⟨r0_3, p1⟩] : List (View.Piece (Elt F) S2x1480x128 .f32)), y ∈ pc.1.set :=
  View.cover_of_tiled [⟨r0_5, p0⟩, ⟨r0_3, p1⟩] S1x1480x128.size (by rfl) y

/-- Window 7's staging buffer after the body, from the input windows' blocks: its 2 stores as pieces, LAST
    FIRST. -/
def out0_7 (x0 : Vec F S2048x2048 .bf16) (x1 : Vec F S2048x256 .f32) (x2 : Vec F S2048x256 .f32) (x3 : Vec F S2048x256 .f32) (x4 : Vec F S2048x128 .f32) (x5 : Vec F S2048x128 .f32) : Vec F S2x512x128 .f32 :=
  View.canon [⟨r0_8, k0_pay21 (k0_pay23 x0 x1 x2 x3 x4 x5) (k0_pay24 x0 x1 x2 x3 x4 x5) (k0_pay25 x0 x1 x2 x3 x4 x5) (View.ld x2 r0_2)⟩,
    ⟨r0_7, k0_pay18 (k0_pay23 x0 x1 x2 x3 x4 x5) (k0_pay24 x0 x1 x2 x3 x4 x5) (k0_pay25 x0 x1 x2 x3 x4 x5) (View.ld x2 r0_2)⟩]

/-- Its stores tile the buffer (checked by evaluation), so they cover it. -/
theorem cover0_7 (p0 : Vec F S1x512x128 .f32) (p1 : Vec F S1x512x128 .f32) (y : S2x512x128.Idx) :
    ∃ pc ∈ ([⟨r0_8, p0⟩, ⟨r0_7, p1⟩] : List (View.Piece (Elt F) S2x512x128 .f32)), y ∈ pc.1.set :=
  View.cover_of_tiled [⟨r0_8, p0⟩, ⟨r0_7, p1⟩] S1x512x128.size (by rfl) y

/-- Window 8's staging buffer after the body, from the input windows' blocks: its 2 stores as pieces, LAST
    FIRST. -/
def out0_8 (x0 : Vec F S2048x2048 .bf16) (x1 : Vec F S2048x256 .f32) (x2 : Vec F S2048x256 .f32) (x3 : Vec F S2048x256 .f32) (x4 : Vec F S2048x128 .f32) (x5 : Vec F S2048x128 .f32) : Vec F S2x2048x128 .bf16 :=
  View.canon [⟨r0_6, k0_pay15 (k0_pay12 (View.ld x0 r0_0) (View.ld x4 r0_1) (View.ld x5 r0_1) (View.ld x1 r0_2))⟩,
    ⟨r0_4, k0_pay11 (View.ld x0 r0_0) (View.ld x4 r0_1) (View.ld x5 r0_1) (View.ld x1 r0_2)⟩]

/-- Its stores tile the buffer (checked by evaluation), so they cover it. -/
theorem cover0_8 (p0 : Vec F S1x2048x128 .bf16) (p1 : Vec F S1x2048x128 .bf16) (y : S2x2048x128.Idx) :
    ∃ pc ∈ ([⟨r0_6, p0⟩, ⟨r0_4, p1⟩] : List (View.Piece (Elt F) S2x2048x128 .bf16)), y ∈ pc.1.set :=
  View.cover_of_tiled [⟨r0_6, p0⟩, ⟨r0_4, p1⟩] S1x2048x128.size (by rfl) y

/-- Window 9's staging buffer after the body, from the input windows' blocks: its 2 stores as pieces, LAST
    FIRST. -/
def out0_9 (x0 : Vec F S2048x2048 .bf16) (x1 : Vec F S2048x256 .f32) (x2 : Vec F S2048x256 .f32) (x3 : Vec F S2048x256 .f32) (x4 : Vec F S2048x128 .f32) (x5 : Vec F S2048x128 .f32) : Vec F S2x2048x128 .bf16 :=
  View.canon [⟨r0_6, k0_pay1 (k0_pay22 (k0_pay23 x0 x1 x2 x3 x4 x5) (k0_pay24 x0 x1 x2 x3 x4 x5) (k0_pay25 x0 x1 x2 x3 x4 x5) (View.ld x2 r0_2))⟩,
    ⟨r0_4, k0_pay19 (k0_pay23 x0 x1 x2 x3 x4 x5) (k0_pay24 x0 x1 x2 x3 x4 x5) (k0_pay25 x0 x1 x2 x3 x4 x5) (View.ld x2 r0_2)⟩]

/-- Its stores tile the buffer (checked by evaluation), so they cover it. -/
theorem cover0_9 (p0 : Vec F S1x2048x128 .bf16) (p1 : Vec F S1x2048x128 .bf16) (y : S2x2048x128.Idx) :
    ∃ pc ∈ ([⟨r0_6, p0⟩, ⟨r0_4, p1⟩] : List (View.Piece (Elt F) S2x2048x128 .bf16)), y ∈ pc.1.set :=
  View.cover_of_tiled [⟨r0_6, p0⟩, ⟨r0_4, p1⟩] S1x2048x128.size (by rfl) y

/-- Window 10's staging buffer after the body, from the input windows' blocks: its 2 stores as pieces, LAST
    FIRST. -/
def out0_10 (x0 : Vec F S2048x2048 .bf16) (x1 : Vec F S2048x256 .f32) (x2 : Vec F S2048x256 .f32) (x3 : Vec F S2048x256 .f32) (x4 : Vec F S2048x128 .f32) (x5 : Vec F S2048x128 .f32) : Vec F S2x2048x128 .bf16 :=
  View.canon [⟨r0_6, k0_pay4 (k0_pay23 x0 x1 x2 x3 x4 x5) (View.ld x3 r0_2)⟩,
    ⟨r0_4, k0_pay3 (k0_pay23 x0 x1 x2 x3 x4 x5) (View.ld x3 r0_2)⟩]

/-- Its stores tile the buffer (checked by evaluation), so they cover it. -/
theorem cover0_10 (p0 : Vec F S1x2048x128 .bf16) (p1 : Vec F S1x2048x128 .bf16) (y : S2x2048x128.Idx) :
    ∃ pc ∈ ([⟨r0_6, p0⟩, ⟨r0_4, p1⟩] : List (View.Piece (Elt F) S2x2048x128 .bf16)), y ∈ pc.1.set :=
  View.cover_of_tiled [⟨r0_6, p0⟩, ⟨r0_4, p1⟩] S1x2048x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S2048x2048 .bf16) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2x1480x128 .f32) (harg7 : arg7.IsWhole) (arg8 : Memref sig .tc .vmem S2x512x128 .f32) (harg8 : arg8.IsWhole) (arg9 : Memref sig .tc .vmem S2x2048x128 .bf16) (harg9 : arg9.IsWhole) (arg10 : Memref sig .tc .vmem S2x2048x128 .bf16) (harg10 : arg10.IsWhole) (arg11 : Memref sig .tc .vmem S2x2048x128 .bf16) (harg11 : arg11.IsWhole)
    (x0 : Vec F S2048x2048 .bf16) (x1 : Vec F S2048x256 .f32) (x2 : Vec F S2048x256 .f32) (x3 : Vec F S2048x256 .f32) (x4 : Vec F S2048x128 .f32) (x5 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5) ∗ owns (c : Thread nD τ) arg11 fullShare (out0_10 x0 x1 x2 x3 x4 x5)) -∗ K ⟨⟩))
      ⊢ wp frame (wpE (defs₀ (F := F)) Variants.none c none) E (cc0__qkv_rope_kernel i arg1 harg1 arg2 harg2 arg3 harg3 arg4 harg4 arg5 harg5 arg6 harg6 arg7 harg7 arg8 harg8 arg9 harg9 arg10 harg10 arg11 harg11) K := by
  simp only [cc0__qkv_rope_kernel_eq_skeleton]; unfold cc0__qkv_rope_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _ _)).trans ?_
    rfl
  isplitl [H7]
  · iexists _; isplitr
    swap; · iexact H7
    ipureintro
    refine (View.read_writes_eq_canon _ _ _ (cover0_7 _ _)).trans ?_
    rfl
  isplitl [H8]
  · iexists _; isplitr
    swap; · iexact H8
    ipureintro
    refine (View.read_writes_eq_canon _ _ _ (cover0_8 _ _)).trans ?_
    rfl
  isplitl [H9]
  · iexists _; isplitr
    swap; · iexact H9
    ipureintro
    refine (View.read_writes_eq_canon _ _ _ (cover0_9 _ _)).trans ?_
    rfl
  iexists _; isplitr
  swap; · iexact H10
  ipureintro
  refine (View.read_writes_eq_canon _ _ _ (cover0_10 _ _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
    | ⟨10, _⟩ => out0_10 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: the library's `Dat`). -/
theorem after0_0 (c : Dev nD) (t : Fin cfg0.N) : (dat0 V c).after 0 t = iblk0 V c 0 t := by dsimp only [dat0]
/-- What the body leaves in window 1. -/
theorem after0_1 (c : Dev nD) (t : Fin cfg0.N) : (dat0 V c).after 1 t = iblk0 V c 1 t := by dsimp only [dat0]
/-- What the body leaves in window 2. -/
theorem after0_2 (c : Dev nD) (t : Fin cfg0.N) : (dat0 V c).after 2 t = iblk0 V c 2 t := by dsimp only [dat0]
/-- What the body leaves in window 3. -/
theorem after0_3 (c : Dev nD) (t : Fin cfg0.N) : (dat0 V c).after 3 t = iblk0 V c 3 t := by dsimp only [dat0]
/-- What the body leaves in window 4. -/
theorem after0_4 (c : Dev nD) (t : Fin cfg0.N) : (dat0 V c).after 4 t = iblk0 V c 4 t := by dsimp only [dat0]
/-- What the body leaves in window 5. -/
theorem after0_5 (c : Dev nD) (t : Fin cfg0.N) : (dat0 V c).after 5 t = iblk0 V c 5 t := by dsimp only [dat0]
/-- What the body leaves in window 6. -/
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
/-- What the body leaves in window 7. -/
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
/-- What the body leaves in window 8. -/
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
/-- What the body leaves in window 9. -/
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]
/-- What the body leaves in window 10. -/
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What the body finds in window 1. -/
theorem before0_1 (c : Dev nD) (t : Fin cfg0.N) (d) : (dat0 V c).before 1 t d = iblk0 V c 1 t :=
  before0_1_of V (dat0 V c) (A_eq0 V c 1) (after0_1 V c) t d
/-- What the body finds in window 2. -/
theorem before0_2 (c : Dev nD) (t : Fin cfg0.N) (d) : (dat0 V c).before 2 t d = iblk0 V c 2 t :=
  before0_2_of V (dat0 V c) (A_eq0 V c 2) (after0_2 V c) t d
/-- What the body finds in window 3. -/
theorem before0_3 (c : Dev nD) (t : Fin cfg0.N) (d) : (dat0 V c).before 3 t d = iblk0 V c 3 t :=
  before0_3_of V (dat0 V c) (A_eq0 V c 3) (after0_3 V c) t d
/-- What the body finds in window 4. -/
theorem before0_4 (c : Dev nD) (t : Fin cfg0.N) (d) : (dat0 V c).before 4 t d = iblk0 V c 4 t :=
  before0_4_of V (dat0 V c) (A_eq0 V c 4) (after0_4 V c) t d
/-- What the body finds in window 5. -/
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdeal.Body1.lean ====
/- Region 1 (the scores of the text queries against the image keys): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__scores_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): the library's `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1480x128 := Rect.unit (s := S1x1480x128) ![0, 0, 0] S1x1480x128.size inb_S1x1480x128_S1x1480x128_0_0_0
abbrev r1_1 : Rect S1x512x128 := Rect.unit (s := S1x512x128) ![0, 0, 0] S1x512x128.size inb_S1x512x128_S1x512x128_0_0_0
abbrev r1_2 : Rect S1x1479x512 := Rect.unit (s := S1x1479x512) ![0, 0, 0] S1x1479x512.size inb_S1x1479x512_S1x1479x512_0_0_0

/-! ## What the body leaves in each output window's buffer -/

/-- Window 2's staging buffer after the body, from the input windows' blocks: its 1 store as pieces, LAST
    FIRST. -/
def out1_2 (x0 : Vec F S1x1480x128 .f32) (x1 : Vec F S1x512x128 .f32) : Vec F S1x1479x512 .f32 :=
  View.canon [⟨r1_2, k1_pay1 (View.ld x0 r1_0) (View.ld x1 r1_1)⟩]

/-- Its stores tile the buffer (checked by evaluation), so they cover it. -/
theorem cover1_2 (p0 : Vec F S1x1479x512 .f32) (y : S1x1479x512.Idx) :
    ∃ pc ∈ ([⟨r1_2, p0⟩] : List (View.Piece (Elt F) S1x1479x512 .f32)), y ∈ pc.1.set :=
  View.cover_of_tiled [⟨r1_2, p0⟩] S1x1479x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg1 : Memref sig .tc .vmem S1x1480x128 .f32) (harg1 : arg1.IsWhole) (arg2 : Memref sig .tc .vmem S1x512x128 .f32) (harg2 : arg2.IsWhole) (arg3 : Memref sig .tc .vmem S1x1479x512 .f32) (harg3 : arg3.IsWhole)
    (x0 : Vec F S1x1480x128 .f32) (x1 : Vec F S1x512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scores_kernel i arg1 harg1 arg2 harg2 arg3 harg3) K := by
  simp only [cc1__scores_kernel_eq_skeleton]; unfold cc1__scores_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: the library's `Dat`). -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body finds in window 1. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdeal.Body2.lean ====
/- Region 2 (the selection of the kept image positions): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__select_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x512 := Rect.unit (s := S1x512) ![0, 0] S1x512.size inb_S1x512_S1x512_0_0

/-! ## What the body leaves in each output window's buffer -/

/-- Window 1's staging buffer after the body, from the input windows' blocks: its 1 store as pieces, LAST
    FIRST. -/
def out2_1 (x0 : Vec F S1x512 .f32) : Vec F S1x512 .i32 :=
  View.canon [⟨r2_0, k2_pay1 (View.ld x0 r2_0)⟩]

/-- Its stores tile the buffer (checked by evaluation), so they cover it. -/
theorem cover2_1 (p0 : Vec F S1x512 .i32) (y : S1x512.Idx) :
    ∃ pc ∈ ([⟨r2_0, p0⟩] : List (View.Piece (Elt F) S1x512 .i32)), y ∈ pc.1.set :=
  View.cover_of_tiled [⟨r2_0, p0⟩] S1x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel2 (c : Dev nD) (E : Set ℕ) (arg0 : Memref sig .tc .vmem S1x512 .f32) (harg0 : arg0.IsWhole) (arg1 : Memref sig .tc .vmem S1x512 .i32) (harg1 : arg1.IsWhole)
    (x0 : Vec F S1x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__select_kernel arg0 harg0 arg1 harg1) K := by
  simp only [cc2__select_kernel_eq_skeleton]; unfold cc2__select_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them (`V`); after the body at
    point `t` each input's buffer at its block and each output's at `out2_W` of the input blocks; the invariant the
    class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: the library's `Dat`). -/
theorem after2_0 (c : Dev nD) (t : Fin cfg2.N) : (dat2 V c).after 0 t = iblk2 V c 0 t := by dsimp only [dat2]
/-- What the body leaves in window 1. -/
theorem after2_1 (c : Dev nD) (t : Fin cfg2.N) : (dat2 V c).after 1 t = out2_1 (iblk2 V c 0 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.KernelIdeal.Body3.lean ====
/- Region 3 (attention of query block 0): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 3: attention of query block 0 (rows from 0) over the first 512 positions -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What window 0's staging buffer holds at point `t`: its block. -/
abbrev x3_0 (c : Dev nD) (t : Fin cfg3.N) : ((cfg3.win 0).xblock (cfg3.grid.coords t)).Idx → Elt F (cfg3.win 0).elt := iblk3 V c 0 t
/-- Window 0's staging buffer holds its block at every point, for any proof data with that array whose body leaves it. -/
theorem before3_0_of {c : Dev nD} (dat : Dat τ (Elt F) Unit ℕ (UR sig nD τ) ℕ cfg3 c) (hA : dat.A 0 = V c (Pipeline.arrRef spec3 0))
    (hafter : ∀ t, dat.after 0 t = x3_0 V c t) (t : Fin cfg3.N) (d) : dat.before 0 t d = x3_0 V c t :=
  (dat.before_in_eq_fetched 0 rfl (fun _ => rfl) (fun _ _ _ => rfl) (fun t => by rw [hafter]; unfold Dat.blockOf x3_0 iblk3; rw [hA]; try rfl) t d).trans
    (by unfold Dat.fetched Dat.blockOf x3_0 iblk3; rw [hA]; try rfl)
/-- What window 1's staging buffer holds at point `t`: its block. -/
abbrev x3_1 (c : Dev nD) (t : Fin cfg3.N) : ((cfg3.win 1).xblock (cfg3.grid.coords t)).Idx → Elt F (cfg3.win 1).elt := iblk3 V c 1 t
/-- Window 1's staging buffer holds its block at every point, for any proof data with that array whose body leaves it. -/
theorem before3_1_of {c : Dev nD} (dat : Dat τ (Elt F) Unit ℕ (UR sig nD τ) ℕ cfg3 c) (hA : dat.A 1 = V c (Pipeline.arrRef spec3 1))
    (hafter : ∀ t, dat.after 1 t = x3_1 V c t) (t : Fin cfg3.N) (d) : dat.before 1 t d = x3_1 V c t :=
  (dat.before_in_eq_fetched 1 rfl (fun _ => rfl) (fun _ _ _ => rfl) (fun t => by rw [hafter]; unfold Dat.blockOf x3_1 iblk3; rw [hA]; try rfl) t d).trans
    (by unfold Dat.fetched Dat.blockOf x3_1 iblk3; rw [hA]; try rfl)
/-- What window 2's staging buffer holds at point `t`: its block. -/
abbrev x3_2 (c : Dev nD) (t : Fin cfg3.N) : ((cfg3.win 2).xblock (cfg3.grid.coords t)).Idx → Elt F (cfg3.win 2).elt := iblk3 V c 2 t
/-- Window 2's staging buffer holds its block at every point, for any proof data with that array whose body leaves it. -/
theorem before3_2_of {c : Dev nD} (dat : Dat τ (Elt F) Unit ℕ (UR sig nD τ) ℕ cfg3 c) (hA : dat.A 2 = V c (Pipeline.arrRef spec3 2))
    (hafter : ∀ t, dat.after 2 t = x3_2 V c t) (t : Fin cfg3.N) (d) : dat.before 2 t d = x3_2 V c t :=
  (dat.before_in_eq_fetched 2 rfl (fun _ => rfl) (fun _ _ _ => rfl) (fun t => by rw [hafter]; unfold Dat.blockOf x3_2 iblk3; rw [hA]; try rfl) t d).trans
    (by unfold Dat.fetched Dat.blockOf x3_2 iblk3; rw [hA]; try rfl)
/-- What window 3's staging buffer holds at point `t`: its block. -/
abbrev x3_3 (c : Dev nD) (t : Fin cfg3.N) : ((cfg3.win 3).xblock (cfg3.grid.coords t)).Idx → Elt F (cfg3.win 3).elt := iblk3 V c 3 t
/-- Window 3's staging buffer holds its block at every point, for any proof data with that array whose body leaves it. -/
theorem before3_3_of {c : Dev nD} (dat : Dat τ (Elt F) Unit ℕ (UR sig nD τ) ℕ cfg3 c) (hA : dat.A 3 = V c (Pipeline.arrRef spec3 3))
    (hafter : ∀ t, dat.after 3 t = x3_3 V c t) (t : Fin cfg3.N) (d) : dat.before 3 t d = x3_3 V c t :=
  (dat.before_in_eq_fetched 3 rfl (fun _ => rfl) (fun _ _ _ => rfl) (fun t => by rw [hafter]; unfold Dat.blockOf x3_3 iblk3; rw [hA]; try rfl) t d).trans
    (by unfold Dat.fetched Dat.blockOf x3_3 iblk3; rw [hA]; try rfl)

/-- The positions' block is the same at every point. -/
theorem x3_3_const (c : Dev nD) (t t' : Fin cfg3.N) : x3_3 V c t = x3_3 V c t' := rfl

/-! ## The body's accesses and what it leaves -/

abbrev r3_p : Rect S8x512 := Rect.unit (s := S8x512) ![0, 0] S1x512.size inb_S8x512_S1x512_0_0
abbrev r3_q : Rect S1x512x128 := Rect.unit (s := S1x512x128) ![0, 0, 0] S1x512x128.size inb_S1x512x128_S1x512x128_0_0_0
abbrev r3_k : Rect S1x512x128 := Rect.unit (s := S1x512x128) ![0, 0, 0] S1x512x128.size inb_S1x512x128_S1x512x128_0_0_0
abbrev r3_m : Rect S512x512 := Rect.unit (s := S512x512) ![0, 0] S512x512.size inb_S512x512_S512x512_0_0
abbrev r3_o : Rect S512x128 := Rect.unit (s := S512x128) ![0, 0] S512x128.size inb_S512x128_S512x128_0_0

/-- The mask that the first point leaves in the scratch, from the positions' block. -/
def mask3 (x3 : Vec F S8x512 .i32) : Vec F S512x512 .f32 :=
  View.canon [⟨r3_m, k3_pay1 (View.ld x3 r3_p)⟩]

/-- The output block that a point leaves, the scratch holding `d`. -/
def outM3 (x0 : Vec F S1x512x128 .bf16) (x1 : Vec F S1x512x128 .bf16) (x2 : Vec F S1x512x128 .bf16) (d : Vec F S512x512 .f32) : Vec F S512x128 .f32 :=
  View.canon [⟨r3_o, k3_pay2 (View.ld x0 r3_q) (View.ld x1 r3_k) (View.ld d r3_m) (View.ld x2 r3_k)⟩]

/-- The output block of a point, from the input blocks. -/
def out3_4 (x0 : Vec F S1x512x128 .bf16) (x1 : Vec F S1x512x128 .bf16) (x2 : Vec F S1x512x128 .bf16) (x3 : Vec F S8x512 .i32) : Vec F S512x128 .f32 :=
  outM3 x0 x1 x2 (mask3 x3)

/-- The output's store covers its buffer. -/
theorem cover3_4 (p0 : Vec F S512x128 .f32) (y : S512x128.Idx) :
    ∃ pc ∈ ([⟨r3_o, p0⟩] : List (View.Piece (Elt F) S512x128 .f32)), y ∈ pc.1.set :=
  View.cover_of_tiled [⟨r3_o, p0⟩] S512x128.size (by rfl) y

/-- The mask's store covers the scratch. -/
theorem coverM3 (p0 : Vec F S512x512 .f32) (y : S512x512.Idx) :
    ∃ pc ∈ ([⟨r3_m, p0⟩] : List (View.Piece (Elt F) S512x512 .f32)), y ∈ pc.1.set :=
  View.cover_of_tiled [⟨r3_m, p0⟩] S512x512.size (by rfl) y

/-- The condition of the body's branch, from the grid coordinates. -/
abbrev cond3 (i : grid3.Coords) : Prop := (Scalar.cmpi .ne (Scalar.extui (Scalar.cmpi .eq (BitVec.ofNat 32 (i 0).val) 0#32)) 0#32) = 1#1
/-- It holds at the first point only. -/
theorem hcond3 : ∀ t : Fin cfg3.N, cond3 (grid3.coords t) ↔ t.val % 16 = 0 :=
  (fun t => by
    have ht : t.val < 16 := Nat.lt_of_lt_of_eq t.isLt N_3
    have e0 : (grid3.coords t 0).val = t.val / 1 % 16 := Pipeline.Grid.coords_val t 0 (by decide) rfl
    simp only [cond3, e0]
    word_cmp
   : ∀ t : Fin grid3.N, cond3 (grid3.coords t) ↔ t.val % 16 = 0)

/-! ## The body's triple -/

set_option maxHeartbeats 1000000 in
/-- The body at the first point: from the inputs' blocks and anything in the output and the scratch, it leaves the mask in the
    scratch and the output block in the output. -/
theorem sound_kernel3_first (c : Dev nD) (E : Set ℕ) (i : grid3.Coords) (arg1 : Memref sig .tc .vmem S1x512x128 .bf16) (harg1 : arg1.IsWhole) (arg2 : Memref sig .tc .vmem S1x512x128 .bf16) (harg2 : arg2.IsWhole) (arg3 : Memref sig .tc .vmem S1x512x128 .bf16) (harg3 : arg3.IsWhole) (arg4 : Memref sig .tc .vmem S8x512 .i32) (harg4 : arg4.IsWhole) (arg5 : Memref sig .tc .vmem S512x128 .f32) (harg5 : arg5.IsWhole) (arg6 : Memref sig .tc .vmem S512x512 .f32) (harg6 : arg6.IsWhole) (hc : cond3 i)
    (x0 : Vec F S1x512x128 .bf16) (x1 : Vec F S1x512x128 .bf16) (x2 : Vec F S1x512x128 .bf16) (x3 : Vec F S8x512 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (mask3 x3)) -∗ K ⟨⟩))
      ⊢ wp frame (wpE (defs₀ (F := F)) Variants.none c none) E (cc3__attn_kernel i arg1 harg1 arg2 harg2 arg3 harg3 arg4 harg4 arg5 harg5 arg6 harg6) K := by
  simp only [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover3_4 _)).trans ?_
    unfold sound_kernel3_first.sl.v8 sound_kernel3_first.sl.H5_1
    rw [View.readCov_eq_canon_ld _ _ r3_m (coverM3 _)]
    rfl
  iexists _; isplitr
  swap; · iexact H5
  ipureintro
  exact View.read_writes_eq_canon _ _ _ (coverM3 _)

set_option maxHeartbeats 1000000 in
/-- The body at a later point: the scratch is read and kept. -/
theorem sound_kernel3_later (c : Dev nD) (E : Set ℕ) (i : grid3.Coords) (arg1 : Memref sig .tc .vmem S1x512x128 .bf16) (harg1 : arg1.IsWhole) (arg2 : Memref sig .tc .vmem S1x512x128 .bf16) (harg2 : arg2.IsWhole) (arg3 : Memref sig .tc .vmem S1x512x128 .bf16) (harg3 : arg3.IsWhole) (arg4 : Memref sig .tc .vmem S8x512 .i32) (harg4 : arg4.IsWhole) (arg5 : Memref sig .tc .vmem S512x128 .f32) (harg5 : arg5.IsWhole) (arg6 : Memref sig .tc .vmem S512x512 .f32) (harg6 : arg6.IsWhole) (hc : ¬ cond3 i)
    (x0 : Vec F S1x512x128 .bf16) (x1 : Vec F S1x512x128 .bf16) (x2 : Vec F S1x512x128 .bf16) (x3 : Vec F S8x512 .i32) (d : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outM3 x0 x1 x2 d) ∗ owns (c : Thread nD τ) arg6 fullShare d) -∗ K ⟨⟩))
      ⊢ wp frame (wpE (defs₀ (F := F)) Variants.none c none) E (cc3__attn_kernel i arg1 harg1 arg2 harg2 arg3 harg3 arg4 harg4 arg5 harg5 arg6 harg6) K := by
  simp only [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists f5; isplitr; · ipureintro; rfl
  iexact H5

/-! ## The pipeline's proof data -/

/-- The scratch operand as a memref. -/
abbrev scM3 : Memref sig .tc .vmem S512x512 .f32 := Memref.whole cc3_scratch0

/-- The invariant before point `n`: the scratch is owned, and holds the mask once a point has run; the other scoped buffers and
    the generator register are at some contents. -/
def Phi3 (c : Dev nD) (n : ℕ) : sProp 𝕄 :=
  iprop((∃ d, owns (c : Thread nD τ) scM3 fullShare d ∗ ⌜∀ t : Fin cfg3.N, n ≠ 0 → d = mask3 (x3_3 V c t)⌝)
    ∗ Pipeline.scopedRestBut (Ix := Unit) (Name := ℕ) (U := UR sig nD τ) (Lvl := ℕ) (Val := Elt F) spec3 c [cc3_scratch0]
    ∗ ∃ r, prngReg c r)

/-- The proof data of pipeline 3 on core `c`: the arrays as the region finds them; after the body each input's buffer at its
    block and the output's at `out3_4` of the input blocks; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => x3_0 V c t
    | ⟨1, _⟩ => x3_1 V c t
    | ⟨2, _⟩ => x3_2 V c t
    | ⟨3, _⟩ => x3_3 V c t
    | ⟨4, _⟩ => out3_4 (x3_0 V c t) (x3_1 V c t) (x3_2 V c t) (x3_3 V c t)
  Φ n := Phi3 V c n.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = x3_0 V c t := by dsimp only [dat3]
/-- What the body leaves in window 1. -/
theorem after3_1 (c : Dev nD) (t : Fin cfg3.N) : (dat3 V c).after 1 t = x3_1 V c t := by dsimp only [dat3]
/-- What the body leaves in window 2. -/
theorem after3_2 (c : Dev nD) (t : Fin cfg3.N) : (dat3 V c).after 2 t = x3_2 V c t := by dsimp only [dat3]
/-- What the body leaves in window 3. -/
theorem after3_3 (c : Dev nD) (t : Fin cfg3.N) : (dat3 V c).after 3 t = x3_3 V c t := by dsimp only [dat3]
/-- What the body leaves in window 4. -/
theorem after3_4 (c : Dev nD) (t : Fin cfg3.N) : (dat3 V c).after 4 t = out3_4 (x3_0 V c t) (x3_1 V c t) (x3_2 V c t) (x3_3 V c t) := by dsimp only [dat3]

/-- Each input's staging buffer holds its block at every point. -/
theorem before3_0 (c : Dev nD) (t : Fin cfg3.N) (d) : (dat3 V c).before 0 t d = x3_0 V c t :=
  before3_0_of V (dat3 V c) (A_eq3 V c 0) (after3_0 V c) t d
/-- What the body finds in window 1. -/
theorem before3_1 (c : Dev nD) (t : Fin cfg3.N) (d) : (dat3 V c).before 1 t d = x3_1 V c t :=
  before3_1_of V (dat3 V c) (A_eq3 V c 1) (after3_1 V c) t d
/-- What the body finds in window 2. -/
theorem before3_2 (c : Dev nD) (t : Fin cfg3.N) (d) : (dat3 V c).before 2 t d = x3_2 V c t :=
  before3_2_of V (dat3 V c) (A_eq3 V c 2) (after3_2 V c) t d
/-- What the body finds in window 3. -/
theorem before3_3 (c : Dev nD) (t : Fin cfg3.N) (d) : (dat3 V c).before 3 t d = x3_3 V c t :=
  before3_3_of V (dat3 V c) (A_eq3 V c 3) (after3_3 V c) t d

/-! ## The body obligation -/

/-- What the body is called with at point `t`, window by window. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 800000 in
/-- The body at any point: the first point writes the mask, a later one finds it in the scratch. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = Phi3 V c (t.val + 1) from rfl,
    show (dat3 V c).Φ t.castSucc = Phi3 V c t.val from rfl,
    show (dat3 V c).owesAt () t.succ = (dat3 V c).owesAt () t.castSucc from rfl,
    after3_0, after3_1, after3_2, after3_3, after3_4]
  unfold Phi3
  have hN : t.val < 16 := lt_of_lt_of_eq t.isLt (show cfg3.N = 16 from N_3)
  by_cases h0 : t.val % 16 = 0
  · iintro ⟨⟨⟨%ds, HS, -⟩, Hr, Hg⟩, Ho, ⟨%d0, H0⟩, ⟨%d1, H1⟩, ⟨%d2, H2⟩, ⟨%d3, H3⟩, ⟨%d4, H4⟩⟩
    iapply (sound_kernel3_first c Set.univ (grid3.coords t) _ _ _ _ _ _ _ _ _ _ _ _ ((hcond3 t).mpr h0) (x3_0 V c t) (x3_1 V c t) (x3_2 V c t) (x3_3 V c t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hr Hg]
    · isplitl [HS]
      · iexists _; isplitl [HS]; · iexact HS
        ipureintro; exact fun t2 _ => congrArg mask3 (x3_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4
  · iintro ⟨⟨⟨%ds, HS, %hds⟩, Hr, Hg⟩, Ho, ⟨%d0, H0⟩, ⟨%d1, H1⟩, ⟨%d2, H2⟩, ⟨%d3, H3⟩, ⟨%d4, H4⟩⟩
    obtain rfl := hds t (fun e => h0 (by rw [e]))
    unfold out3_4
    iapply (sound_kernel3_later c Set.univ (grid3.coords t) _ _ _ _ _ _ _ _ _ _ _ _ (fun h => h0 ((hcond3 t).mp h)) (x3_0 V c t) (x3_1 V c t) (x3_2 V c t) (x3_3 V c t) (mask3 (x3_3 V c t)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]
      · iexists _; isplitl [HS]; · iexact HS
        ipureintro; exact fun t2 _ => congrArg mask3 (x3_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The body obligation of the pipeline, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- The region's start: every scoped buffer and the generator register make the invariant before the first point. -/
theorem Phi3_in (c : Dev nD) : iprop((∃ r, prngReg c r) ∗ Pipeline.scopedRest (Ix := Unit) (Name := ℕ) (U := UR sig nD τ) (Lvl := ℕ) (Val := Elt F) spec3 c) ⊢ Phi3 V c 0 := by
  unfold Phi3; rw [scopedRest3_split]
  iintro ⟨Hg, ⟨%f, Hs⟩, Hr⟩
  isplitl [Hs]
  · iexists f; isplitl [Hs]
    · rw [owns_whole]; iexact Hs
    ipureintro; exact fun _ h => absurd rfl h
  isplitl [Hr]; · iexact Hr
  iexact Hg

/-- The region's end: the invariant gives back every scoped buffer and the generator register. -/
theorem Phi3_out (c : Dev nD) (n : ℕ) : Phi3 V c n ⊢ iprop(Pipeline.scopedRest (Ix := Unit) (Name := ℕ) (U := UR sig nD τ) (Lvl := ℕ) (Val := Elt F) spec3 c ∗ (∃ r, prngReg c r)) := by
  unfold Phi3; rw [scopedRest3_split]
  simp only [owns_whole]
  iintro ⟨⟨%f, Hs, -⟩, Hr, Hg⟩
  isplitl [Hs Hr]
  · isplitl [Hs]; · iexists f; iexact Hs
    iexact Hr
  iexact Hg

end Cert.KernelIdeal.Whole

end
-- ==== Proof.KernelIdeal.Body4.lean ====
/- Region 4 (attention of query block 1): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 4: attention of query block 1 (rows from 512) over the first 1024 positions -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What window 0's staging buffer holds at point `t`: its block. -/
abbrev x4_0 (c : Dev nD) (t : Fin cfg4.N) : ((cfg4.win 0).xblock (cfg4.grid.coords t)).Idx → Elt F (cfg4.win 0).elt := iblk4 V c 0 t
/-- Window 0's staging buffer holds its block at every point, for any proof data with that array whose body leaves it. -/
theorem before4_0_of {c : Dev nD} (dat : Dat τ (Elt F) Unit ℕ (UR sig nD τ) ℕ cfg4 c) (hA : dat.A 0 = V c (Pipeline.arrRef spec4 0))
    (hafter : ∀ t, dat.after 0 t = x4_0 V c t) (t : Fin cfg4.N) (d) : dat.before 0 t d = x4_0 V c t :=
  (dat.before_in_eq_fetched 0 rfl (fun _ => rfl) (fun _ _ _ => rfl) (fun t => by rw [hafter]; unfold Dat.blockOf x4_0 iblk4; rw [hA]; try rfl) t d).trans
    (by unfold Dat.fetched Dat.blockOf x4_0 iblk4; rw [hA]; try rfl)
/-- What window 1's staging buffer holds at point `t`: its block. -/
abbrev x4_1 (c : Dev nD) (t : Fin cfg4.N) : ((cfg4.win 1).xblock (cfg4.grid.coords t)).Idx → Elt F (cfg4.win 1).elt := iblk4 V c 1 t
/-- Window 1's staging buffer holds its block at every point, for any proof data with that array whose body leaves it. -/
theorem before4_1_of {c : Dev nD} (dat : Dat τ (Elt F) Unit ℕ (UR sig nD τ) ℕ cfg4 c) (hA : dat.A 1 = V c (Pipeline.arrRef spec4 1))
    (hafter : ∀ t, dat.after 1 t = x4_1 V c t) (t : Fin cfg4.N) (d) : dat.before 1 t d = x4_1 V c t :=
  (dat.before_in_eq_fetched 1 rfl (fun _ => rfl) (fun _ _ _ => rfl) (fun t => by rw [hafter]; unfold Dat.blockOf x4_1 iblk4; rw [hA]; try rfl) t d).trans
    (by unfold Dat.fetched Dat.blockOf x4_1 iblk4; rw [hA]; try rfl)
/-- What window 2's staging buffer holds at point `t`: its block. -/
abbrev x4_2 (c : Dev nD) (t : Fin cfg4.N) : ((cfg4.win 2).xblock (cfg4.grid.coords t)).Idx → Elt F (cfg4.win 2).elt := iblk4 V c 2 t
/-- Window 2's staging buffer holds its block at every point, for any proof data with that array whose body leaves it. -/
theorem before4_2_of {c : Dev nD} (dat : Dat τ (Elt F) Unit ℕ (UR sig nD τ) ℕ cfg4 c) (hA : dat.A 2 = V c (Pipeline.arrRef spec4 2))
    (hafter : ∀ t, dat.after 2 t = x4_2 V c t) (t : Fin cfg4.N) (d) : dat.before 2 t d = x4_2 V c t :=
  (dat.before_in_eq_fetched 2 rfl (fun _ => rfl) (fun _ _ _ => rfl) (fun t => by rw [hafter]; unfold Dat.blockOf x4_2 iblk4; rw [hA]; try rfl) t d).trans
    (by unfold Dat.fetched Dat.blockOf x4_2 iblk4; rw [hA]; try rfl)
/-- What window 3's staging buffer holds at point `t`: its block. -/
abbrev x4_3 (c : Dev nD) (t : Fin cfg4.N) : ((cfg4.win 3).xblock (cfg4.grid.coords t)).Idx → Elt F (cfg4.win 3).elt := iblk4 V c 3 t
/-- Window 3's staging buffer holds its block at every point, for any proof data with that array whose body leaves it. -/
theorem before4_3_of {c : Dev nD} (dat : Dat τ (Elt F) Unit ℕ (UR sig nD τ) ℕ cfg4 c) (hA : dat.A 3 = V c (Pipeline.arrRef spec4 3))
    (hafter : ∀ t, dat.after 3 t = x4_3 V c t) (t : Fin cfg4.N) (d) : dat.before 3 t d = x4_3 V c t :=
  (dat.before_in_eq_fetched 3 rfl (fun _ => rfl) (fun _ _ _ => rfl) (fun t => by rw [hafter]; unfold Dat.blockOf x4_3 iblk4; rw [hA]; try rfl) t d).trans
    (by unfold Dat.fetched Dat.blockOf x4_3 iblk4; rw [hA]; try rfl)

/-- The positions' block is the same at every point. -/
theorem x4_3_const (c : Dev nD) (t t' : Fin cfg4.N) : x4_3 V c t = x4_3 V c t' := rfl

/-! ## The body's accesses and what it leaves -/

abbrev r4_p : Rect S8x1024 := Rect.unit (s := S8x1024) ![0, 0] S1x1024.size inb_S8x1024_S1x1024_0_0
abbrev r4_q : Rect S1x512x128 := Rect.unit (s := S1x512x128) ![0, 0, 0] S1x512x128.size inb_S1x512x128_S1x512x128_0_0_0
abbrev r4_k : Rect S1x1024x128 := Rect.unit (s := S1x1024x128) ![0, 0, 0] S1x1024x128.size inb_S1x1024x128_S1x1024x128_0_0_0
abbrev r4_m : Rect S512x1024 := Rect.unit (s := S512x1024) ![0, 0] S512x1024.size inb_S512x1024_S512x1024_0_0
abbrev r4_o : Rect S512x128 := Rect.unit (s := S512x128) ![0, 0] S512x128.size inb_S512x128_S512x128_0_0

/-- The mask that the first point leaves in the scratch, from the positions' block. -/
def mask4 (x3 : Vec F S8x1024 .i32) : Vec F S512x1024 .f32 :=
  View.canon [⟨r4_m, k4_pay1 (View.ld x3 r4_p)⟩]

/-- The output block that a point leaves, the scratch holding `d`. -/
def outM4 (x0 : Vec F S1x512x128 .bf16) (x1 : Vec F S1x1024x128 .bf16) (x2 : Vec F S1x1024x128 .bf16) (d : Vec F S512x1024 .f32) : Vec F S512x128 .f32 :=
  View.canon [⟨r4_o, k4_pay2 (View.ld x0 r4_q) (View.ld x1 r4_k) (View.ld d r4_m) (View.ld x2 r4_k)⟩]

/-- The output block of a point, from the input blocks. -/
def out4_4 (x0 : Vec F S1x512x128 .bf16) (x1 : Vec F S1x1024x128 .bf16) (x2 : Vec F S1x1024x128 .bf16) (x3 : Vec F S8x1024 .i32) : Vec F S512x128 .f32 :=
  outM4 x0 x1 x2 (mask4 x3)

/-- The output's store covers its buffer. -/
theorem cover4_4 (p0 : Vec F S512x128 .f32) (y : S512x128.Idx) :
    ∃ pc ∈ ([⟨r4_o, p0⟩] : List (View.Piece (Elt F) S512x128 .f32)), y ∈ pc.1.set :=
  View.cover_of_tiled [⟨r4_o, p0⟩] S512x128.size (by rfl) y

/-- The mask's store covers the scratch. -/
theorem coverM4 (p0 : Vec F S512x1024 .f32) (y : S512x1024.Idx) :
    ∃ pc ∈ ([⟨r4_m, p0⟩] : List (View.Piece (Elt F) S512x1024 .f32)), y ∈ pc.1.set :=
  View.cover_of_tiled [⟨r4_m, p0⟩] S512x1024.size (by rfl) y

/-- The condition of the body's branch, from the grid coordinates. -/
abbrev cond4 (i : grid4.Coords) : Prop := (Scalar.cmpi .ne (Scalar.extui (Scalar.cmpi .eq (BitVec.ofNat 32 (i 0).val) 0#32)) 0#32) = 1#1
/-- It holds at the first point only. -/
theorem hcond4 : ∀ t : Fin cfg4.N, cond4 (grid4.coords t) ↔ t.val % 16 = 0 :=
  (fun t => by
    have ht : t.val < 16 := Nat.lt_of_lt_of_eq t.isLt N_4
    have e0 : (grid4.coords t 0).val = t.val / 1 % 16 := Pipeline.Grid.coords_val t 0 (by decide) rfl
    simp only [cond4, e0]
    word_cmp
   : ∀ t : Fin grid4.N, cond4 (grid4.coords t) ↔ t.val % 16 = 0)

/-! ## The body's triple -/

set_option maxHeartbeats 1000000 in
/-- The body at the first point: from the inputs' blocks and anything in the output and the scratch, it leaves the mask in the
    scratch and the output block in the output. -/
theorem sound_kernel4_first (c : Dev nD) (E : Set ℕ) (i : grid4.Coords) (arg1 : Memref sig .tc .vmem S1x512x128 .bf16) (harg1 : arg1.IsWhole) (arg2 : Memref sig .tc .vmem S1x1024x128 .bf16) (harg2 : arg2.IsWhole) (arg3 : Memref sig .tc .vmem S1x1024x128 .bf16) (harg3 : arg3.IsWhole) (arg4 : Memref sig .tc .vmem S8x1024 .i32) (harg4 : arg4.IsWhole) (arg5 : Memref sig .tc .vmem S512x128 .f32) (harg5 : arg5.IsWhole) (arg6 : Memref sig .tc .vmem S512x1024 .f32) (harg6 : arg6.IsWhole) (hc : cond4 i)
    (x0 : Vec F S1x512x128 .bf16) (x1 : Vec F S1x1024x128 .bf16) (x2 : Vec F S1x1024x128 .bf16) (x3 : Vec F S8x1024 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3) ∗ owns (c : Thread nD τ) arg6 fullShare (mask4 x3)) -∗ K ⟨⟩))
      ⊢ wp frame (wpE (defs₀ (F := F)) Variants.none c none) E (cc4__attn_kernel i arg1 harg1 arg2 harg2 arg3 harg3 arg4 harg4 arg5 harg5 arg6 harg6) K := by
  simp only [cc4__attn_kernel_eq_skeleton]; unfold cc4__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover4_4 _)).trans ?_
    unfold sound_kernel4_first.sl.v8 sound_kernel4_first.sl.H5_1
    rw [View.readCov_eq_canon_ld _ _ r4_m (coverM4 _)]
    rfl
  iexists _; isplitr
  swap; · iexact H5
  ipureintro
  exact View.read_writes_eq_canon _ _ _ (coverM4 _)

set_option maxHeartbeats 1000000 in
/-- The body at a later point: the scratch is read and kept. -/
theorem sound_kernel4_later (c : Dev nD) (E : Set ℕ) (i : grid4.Coords) (arg1 : Memref sig .tc .vmem S1x512x128 .bf16) (harg1 : arg1.IsWhole) (arg2 : Memref sig .tc .vmem S1x1024x128 .bf16) (harg2 : arg2.IsWhole) (arg3 : Memref sig .tc .vmem S1x1024x128 .bf16) (harg3 : arg3.IsWhole) (arg4 : Memref sig .tc .vmem S8x1024 .i32) (harg4 : arg4.IsWhole) (arg5 : Memref sig .tc .vmem S512x128 .f32) (harg5 : arg5.IsWhole) (arg6 : Memref sig .tc .vmem S512x1024 .f32) (harg6 : arg6.IsWhole) (hc : ¬ cond4 i)
    (x0 : Vec F S1x512x128 .bf16) (x1 : Vec F S1x1024x128 .bf16) (x2 : Vec F S1x1024x128 .bf16) (x3 : Vec F S8x1024 .i32) (d : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outM4 x0 x1 x2 d) ∗ owns (c : Thread nD τ) arg6 fullShare d) -∗ K ⟨⟩))
      ⊢ wp frame (wpE (defs₀ (F := F)) Variants.none c none) E (cc4__attn_kernel i arg1 harg1 arg2 harg2 arg3 harg3 arg4 harg4 arg5 harg5 arg6 harg6) K := by
  simp only [cc4__attn_kernel_eq_skeleton]; unfold cc4__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  iexists f5; isplitr; · ipureintro; rfl
  iexact H5

/-! ## The pipeline's proof data -/

/-- The scratch operand as a memref. -/
abbrev scM4 : Memref sig .tc .vmem S512x1024 .f32 := Memref.whole cc4_scratch0

/-- The invariant before point `n`: the scratch is owned, and holds the mask once a point has run; the other scoped buffers and
    the generator register are at some contents. -/
def Phi4 (c : Dev nD) (n : ℕ) : sProp 𝕄 :=
  iprop((∃ d, owns (c : Thread nD τ) scM4 fullShare d ∗ ⌜∀ t : Fin cfg4.N, n ≠ 0 → d = mask4 (x4_3 V c t)⌝)
    ∗ Pipeline.scopedRestBut (Ix := Unit) (Name := ℕ) (U := UR sig nD τ) (Lvl := ℕ) (Val := Elt F) spec4 c [cc4_scratch0]
    ∗ ∃ r, prngReg c r)

/-- The proof data of pipeline 4 on core `c`: the arrays as the region finds them; after the body each input's buffer at its
    block and the output's at `out4_4` of the input blocks; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => x4_0 V c t
    | ⟨1, _⟩ => x4_1 V c t
    | ⟨2, _⟩ => x4_2 V c t
    | ⟨3, _⟩ => x4_3 V c t
    | ⟨4, _⟩ => out4_4 (x4_0 V c t) (x4_1 V c t) (x4_2 V c t) (x4_3 V c t)
  Φ n := Phi4 V c n.val
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = x4_0 V c t := by dsimp only [dat4]
/-- What the body leaves in window 1. -/
theorem after4_1 (c : Dev nD) (t : Fin cfg4.N) : (dat4 V c).after 1 t = x4_1 V c t := by dsimp only [dat4]
/-- What the body leaves in window 2. -/
theorem after4_2 (c : Dev nD) (t : Fin cfg4.N) : (dat4 V c).after 2 t = x4_2 V c t := by dsimp only [dat4]
/-- What the body leaves in window 3. -/
theorem after4_3 (c : Dev nD) (t : Fin cfg4.N) : (dat4 V c).after 3 t = x4_3 V c t := by dsimp only [dat4]
/-- What the body leaves in window 4. -/
theorem after4_4 (c : Dev nD) (t : Fin cfg4.N) : (dat4 V c).after 4 t = out4_4 (x4_0 V c t) (x4_1 V c t) (x4_2 V c t) (x4_3 V c t) := by dsimp only [dat4]

/-- Each input's staging buffer holds its block at every point. -/
theorem before4_0 (c : Dev nD) (t : Fin cfg4.N) (d) : (dat4 V c).before 0 t d = x4_0 V c t :=
  before4_0_of V (dat4 V c) (A_eq4 V c 0) (after4_0 V c) t d
/-- What the body finds in window 1. -/
theorem before4_1 (c : Dev nD) (t : Fin cfg4.N) (d) : (dat4 V c).before 1 t d = x4_1 V c t :=
  before4_1_of V (dat4 V c) (A_eq4 V c 1) (after4_1 V c) t d
/-- What the body finds in window 2. -/
theorem before4_2 (c : Dev nD) (t : Fin cfg4.N) (d) : (dat4 V c).before 2 t d = x4_2 V c t :=
  before4_2_of V (dat4 V c) (A_eq4 V c 2) (after4_2 V c) t d
/-- What the body finds in window 3. -/
theorem before4_3 (c : Dev nD) (t : Fin cfg4.N) (d) : (dat4 V c).before 3 t d = x4_3 V c t :=
  before4_3_of V (dat4 V c) (A_eq4 V c 3) (after4_3 V c) t d

/-! ## The body obligation -/

/-- What the body is called with at point `t`, window by window. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 800000 in
/-- The body at any point: the first point writes the mask, a later one finds it in the scratch. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = Phi4 V c (t.val + 1) from rfl,
    show (dat4 V c).Φ t.castSucc = Phi4 V c t.val from rfl,
    show (dat4 V c).owesAt () t.succ = (dat4 V c).owesAt () t.castSucc from rfl,
    after4_0, after4_1, after4_2, after4_3, after4_4]
  unfold Phi4
  have hN : t.val < 16 := lt_of_lt_of_eq t.isLt (show cfg4.N = 16 from N_4)
  by_cases h0 : t.val % 16 = 0
  · iintro ⟨⟨⟨%ds, HS, -⟩, Hr, Hg⟩, Ho, ⟨%d0, H0⟩, ⟨%d1, H1⟩, ⟨%d2, H2⟩, ⟨%d3, H3⟩, ⟨%d4, H4⟩⟩
    iapply (sound_kernel4_first c Set.univ (grid4.coords t) _ _ _ _ _ _ _ _ _ _ _ _ ((hcond4 t).mpr h0) (x4_0 V c t) (x4_1 V c t) (x4_2 V c t) (x4_3 V c t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hr Hg]
    · isplitl [HS]
      · iexists _; isplitl [HS]; · iexact HS
        ipureintro; exact fun t2 _ => congrArg mask4 (x4_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4
  · iintro ⟨⟨⟨%ds, HS, %hds⟩, Hr, Hg⟩, Ho, ⟨%d0, H0⟩, ⟨%d1, H1⟩, ⟨%d2, H2⟩, ⟨%d3, H3⟩, ⟨%d4, H4⟩⟩
    obtain rfl := hds t (fun e => h0 (by rw [e]))
    unfold out4_4
    iapply (sound_kernel4_later c Set.univ (grid4.coords t) _ _ _ _ _ _ _ _ _ _ _ _ (fun h => h0 ((hcond4 t).mp h)) (x4_0 V c t) (x4_1 V c t) (x4_2 V c t) (x4_3 V c t) (mask4 (x4_3 V c t)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]
      · iexists _; isplitl [HS]; · iexact HS
        ipureintro; exact fun t2 _ => congrArg mask4 (x4_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The body obligation of the pipeline, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-- The region's start: every scoped buffer and the generator register make the invariant before the first point. -/
theorem Phi4_in (c : Dev nD) : iprop((∃ r, prngReg c r) ∗ Pipeline.scopedRest (Ix := Unit) (Name := ℕ) (U := UR sig nD τ) (Lvl := ℕ) (Val := Elt F) spec4 c) ⊢ Phi4 V c 0 := by
  unfold Phi4; rw [scopedRest4_split]
  iintro ⟨Hg, ⟨%f, Hs⟩, Hr⟩
  isplitl [Hs]
  · iexists f; isplitl [Hs]
    · rw [owns_whole]; iexact Hs
    ipureintro; exact fun _ h => absurd rfl h
  isplitl [Hr]; · iexact Hr
  iexact Hg

/-- The region's end: the invariant gives back every scoped buffer and the generator register. -/
theorem Phi4_out (c : Dev nD) (n : ℕ) : Phi4 V c n ⊢ iprop(Pipeline.scopedRest (Ix := Unit) (Name := ℕ) (U := UR sig nD τ) (Lvl := ℕ) (Val := Elt F) spec4 c ∗ (∃ r, prngReg c r)) := by
  unfold Phi4; rw [scopedRest4_split]
  simp only [owns_whole]
  iintro ⟨⟨%f, Hs, -⟩, Hr, Hg⟩
  isplitl [Hs Hr]
  · isplitl [Hs]; · iexists f; iexact Hs
    iexact Hr
  iexact Hg

end Cert.KernelIdeal.Whole

end
-- ==== Proof.KernelIdeal.Body5.lean ====
/- Region 5 (attention of query block 2): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 5: attention of query block 2 (rows from 1024) over the first 1536 positions -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What window 0's staging buffer holds at point `t`: its block. -/
abbrev x5_0 (c : Dev nD) (t : Fin cfg5.N) : ((cfg5.win 0).xblock (cfg5.grid.coords t)).Idx → Elt F (cfg5.win 0).elt := iblk5 V c 0 t
/-- Window 0's staging buffer holds its block at every point, for any proof data with that array whose body leaves it. -/
theorem before5_0_of {c : Dev nD} (dat : Dat τ (Elt F) Unit ℕ (UR sig nD τ) ℕ cfg5 c) (hA : dat.A 0 = V c (Pipeline.arrRef spec5 0))
    (hafter : ∀ t, dat.after 0 t = x5_0 V c t) (t : Fin cfg5.N) (d) : dat.before 0 t d = x5_0 V c t :=
  (dat.before_in_eq_fetched 0 rfl (fun _ => rfl) (fun _ _ _ => rfl) (fun t => by rw [hafter]; unfold Dat.blockOf x5_0 iblk5; rw [hA]; try rfl) t d).trans
    (by unfold Dat.fetched Dat.blockOf x5_0 iblk5; rw [hA]; try rfl)
/-- A default for the part of window 1's staging buffer that a fetch would not fill; no fetch leaves such a part. -/
def dflt5_1 : (cfg5.win 1).block.Idx → Elt F (cfg5.win 1).elt := fun _ => Classical.choice inferInstance
/-- What window 1's staging buffer holds at point `t`: its block, typed at the whole buffer. -/
def x5_1 (c : Dev nD) (t : Fin cfg5.N) : (cfg5.win 1).block.Idx → Elt F (cfg5.win 1).elt :=
  (cfg5.win 1).fill (cfg5.grid.coords t) dflt5_1 (iblk5 V c 1 t)
/-- No transfer of window 1 is cut. -/
theorem xsize5_1 : ∀ t : Fin cfg5.N, ∀ a, (cfg5.win 1).xsize (cfg5.grid.coords t) a = (cfg5.win 1).size a := by decide +kernel
/-- Every index of window 1's block is moved at every point. -/
theorem moved5_1 (t : Fin cfg5.N) (j : (cfg5.win 1).block.Idx) : (cfg5.win 1).moved (cfg5.grid.coords t) j = true :=
  ((cfg5.win 1).moved_iff _ j).mpr fun a => by rw [xsize5_1 t a]; exact (j a).isLt
/-- A fill of window 1's block covers the whole buffer, whatever it held. -/
theorem fill5_1 (t : Fin cfg5.N) (d d' : (cfg5.win 1).block.Idx → Elt F (cfg5.win 1).elt) (g) :
    (cfg5.win 1).fill (cfg5.grid.coords t) d g = (cfg5.win 1).fill (cfg5.grid.coords t) d' g := by
  funext j; unfold Pipeline.Window.fill; rw [dif_pos (moved5_1 t j), dif_pos (moved5_1 t j)]
/-- Window 1's staging buffer holds its block at every point, for any proof data with that array whose body leaves it. -/
theorem before5_1_of {c : Dev nD} (dat : Dat τ (Elt F) Unit ℕ (UR sig nD τ) ℕ cfg5 c) (hA : dat.A 1 = V c (Pipeline.arrRef spec5 1))
    (hafter : ∀ t, dat.after 1 t = x5_1 V c t) (t : Fin cfg5.N) (d) : dat.before 1 t d = x5_1 V c t :=
  (dat.before_in_eq_fetched 1 rfl (fun _ => rfl)
      (fun t t' h => funext fun a => congrArg (fun n => Pipeline.Clip.of n ((cfg5.win 1).size a) (S16x2048x128.size a)) (congrFun h a))
      (fun t => by rw [hafter]; unfold x5_1; rw [Pipeline.Window.cut_fill]; unfold Dat.blockOf iblk5; rw [hA]; try rfl) t d).trans
    (by unfold Dat.fetched x5_1; rw [fill5_1 t d dflt5_1]; unfold Dat.blockOf iblk5; rw [hA]; try rfl)
/-- A default for the part of window 2's staging buffer that a fetch would not fill; no fetch leaves such a part. -/
def dflt5_2 : (cfg5.win 2).block.Idx → Elt F (cfg5.win 2).elt := fun _ => Classical.choice inferInstance
/-- What window 2's staging buffer holds at point `t`: its block, typed at the whole buffer. -/
def x5_2 (c : Dev nD) (t : Fin cfg5.N) : (cfg5.win 2).block.Idx → Elt F (cfg5.win 2).elt :=
  (cfg5.win 2).fill (cfg5.grid.coords t) dflt5_2 (iblk5 V c 2 t)
/-- No transfer of window 2 is cut. -/
theorem xsize5_2 : ∀ t : Fin cfg5.N, ∀ a, (cfg5.win 2).xsize (cfg5.grid.coords t) a = (cfg5.win 2).size a := by decide +kernel
/-- Every index of window 2's block is moved at every point. -/
theorem moved5_2 (t : Fin cfg5.N) (j : (cfg5.win 2).block.Idx) : (cfg5.win 2).moved (cfg5.grid.coords t) j = true :=
  ((cfg5.win 2).moved_iff _ j).mpr fun a => by rw [xsize5_2 t a]; exact (j a).isLt
/-- A fill of window 2's block covers the whole buffer, whatever it held. -/
theorem fill5_2 (t : Fin cfg5.N) (d d' : (cfg5.win 2).block.Idx → Elt F (cfg5.win 2).elt) (g) :
    (cfg5.win 2).fill (cfg5.grid.coords t) d g = (cfg5.win 2).fill (cfg5.grid.coords t) d' g := by
  funext j; unfold Pipeline.Window.fill; rw [dif_pos (moved5_2 t j), dif_pos (moved5_2 t j)]
/-- Window 2's staging buffer holds its block at every point, for any proof data with that array whose body leaves it. -/
theorem before5_2_of {c : Dev nD} (dat : Dat τ (Elt F) Unit ℕ (UR sig nD τ) ℕ cfg5 c) (hA : dat.A 2 = V c (Pipeline.arrRef spec5 2))
    (hafter : ∀ t, dat.after 2 t = x5_2 V c t) (t : Fin cfg5.N) (d) : dat.before 2 t d = x5_2 V c t :=
  (dat.before_in_eq_fetched 2 rfl (fun _ => rfl)
      (fun t t' h => funext fun a => congrArg (fun n => Pipeline.Clip.of n ((cfg5.win 2).size a) (S16x2048x128.size a)) (congrFun h a))
      (fun t => by rw [hafter]; unfold x5_2; rw [Pipeline.Window.cut_fill]; unfold Dat.blockOf iblk5; rw [hA]; try rfl) t d).trans
    (by unfold Dat.fetched x5_2; rw [fill5_2 t d dflt5_2]; unfold Dat.blockOf iblk5; rw [hA]; try rfl)
/-- A default for the part of window 3's staging buffer that a fetch would not fill; no fetch leaves such a part. -/
def dflt5_3 : (cfg5.win 3).block.Idx → Elt F (cfg5.win 3).elt := fun _ => Classical.choice inferInstance
/-- What window 3's staging buffer holds at point `t`: its block, typed at the whole buffer. -/
def x5_3 (c : Dev nD) (t : Fin cfg5.N) : (cfg5.win 3).block.Idx → Elt F (cfg5.win 3).elt :=
  (cfg5.win 3).fill (cfg5.grid.coords t) dflt5_3 (iblk5 V c 3 t)
/-- No transfer of window 3 is cut. -/
theorem xsize5_3 : ∀ t : Fin cfg5.N, ∀ a, (cfg5.win 3).xsize (cfg5.grid.coords t) a = (cfg5.win 3).size a := by decide +kernel
/-- Every index of window 3's block is moved at every point. -/
theorem moved5_3 (t : Fin cfg5.N) (j : (cfg5.win 3).block.Idx) : (cfg5.win 3).moved (cfg5.grid.coords t) j = true :=
  ((cfg5.win 3).moved_iff _ j).mpr fun a => by rw [xsize5_3 t a]; exact (j a).isLt
/-- A fill of window 3's block covers the whole buffer, whatever it held. -/
theorem fill5_3 (t : Fin cfg5.N) (d d' : (cfg5.win 3).block.Idx → Elt F (cfg5.win 3).elt) (g) :
    (cfg5.win 3).fill (cfg5.grid.coords t) d g = (cfg5.win 3).fill (cfg5.grid.coords t) d' g := by
  funext j; unfold Pipeline.Window.fill; rw [dif_pos (moved5_3 t j), dif_pos (moved5_3 t j)]
/-- Window 3's staging buffer holds its block at every point, for any proof data with that array whose body leaves it. -/
theorem before5_3_of {c : Dev nD} (dat : Dat τ (Elt F) Unit ℕ (UR sig nD τ) ℕ cfg5 c) (hA : dat.A 3 = V c (Pipeline.arrRef spec5 3))
    (hafter : ∀ t, dat.after 3 t = x5_3 V c t) (t : Fin cfg5.N) (d) : dat.before 3 t d = x5_3 V c t :=
  (dat.before_in_eq_fetched 3 rfl (fun _ => rfl)
      (fun t t' h => funext fun a => congrArg (fun n => Pipeline.Clip.of n ((cfg5.win 3).size a) (S8x2048.size a)) (congrFun h a))
      (fun t => by rw [hafter]; unfold x5_3; rw [Pipeline.Window.cut_fill]; unfold Dat.blockOf iblk5; rw [hA]; try rfl) t d).trans
    (by unfold Dat.fetched x5_3; rw [fill5_3 t d dflt5_3]; unfold Dat.blockOf iblk5; rw [hA]; try rfl)

/-- The positions' block is the same at every point. -/
theorem x5_3_const (c : Dev nD) (t t' : Fin cfg5.N) : x5_3 V c t = x5_3 V c t' := rfl

/-! ## The body's accesses and what it leaves -/

abbrev r5_p : Rect S8x1536 := Rect.unit (s := S8x1536) ![0, 0] S1x1536.size inb_S8x1536_S1x1536_0_0
abbrev r5_q : Rect S1x512x128 := Rect.unit (s := S1x512x128) ![0, 0, 0] S1x512x128.size inb_S1x512x128_S1x512x128_0_0_0
abbrev r5_k : Rect S1x1536x128 := Rect.unit (s := S1x1536x128) ![0, 0, 0] S1x1536x128.size inb_S1x1536x128_S1x1536x128_0_0_0
abbrev r5_m : Rect S512x1536 := Rect.unit (s := S512x1536) ![0, 0] S512x1536.size inb_S512x1536_S512x1536_0_0
abbrev r5_o : Rect S512x128 := Rect.unit (s := S512x128) ![0, 0] S512x128.size inb_S512x128_S512x128_0_0

/-- The mask that the first point leaves in the scratch, from the positions' block. -/
def mask5 (x3 : Vec F S8x1536 .i32) : Vec F S512x1536 .f32 :=
  View.canon [⟨r5_m, k5_pay1 (View.ld x3 r5_p)⟩]

/-- The output block that a point leaves, the scratch holding `d`. -/
def outM5 (x0 : Vec F S1x512x128 .bf16) (x1 : Vec F S1x1536x128 .bf16) (x2 : Vec F S1x1536x128 .bf16) (d : Vec F S512x1536 .f32) : Vec F S512x128 .f32 :=
  View.canon [⟨r5_o, k5_pay2 (View.ld x0 r5_q) (View.ld x1 r5_k) (View.ld d r5_m) (View.ld x2 r5_k)⟩]

/-- The output block of a point, from the input blocks. -/
def out5_4 (x0 : Vec F S1x512x128 .bf16) (x1 : Vec F S1x1536x128 .bf16) (x2 : Vec F S1x1536x128 .bf16) (x3 : Vec F S8x1536 .i32) : Vec F S512x128 .f32 :=
  outM5 x0 x1 x2 (mask5 x3)

/-- The output's store covers its buffer. -/
theorem cover5_4 (p0 : Vec F S512x128 .f32) (y : S512x128.Idx) :
    ∃ pc ∈ ([⟨r5_o, p0⟩] : List (View.Piece (Elt F) S512x128 .f32)), y ∈ pc.1.set :=
  View.cover_of_tiled [⟨r5_o, p0⟩] S512x128.size (by rfl) y

/-- The mask's store covers the scratch. -/
theorem coverM5 (p0 : Vec F S512x1536 .f32) (y : S512x1536.Idx) :
    ∃ pc ∈ ([⟨r5_m, p0⟩] : List (View.Piece (Elt F) S512x1536 .f32)), y ∈ pc.1.set :=
  View.cover_of_tiled [⟨r5_m, p0⟩] S512x1536.size (by rfl) y

/-- The condition of the body's branch, from the grid coordinates. -/
abbrev cond5 (i : grid5.Coords) : Prop := (Scalar.cmpi .ne (Scalar.extui (Scalar.cmpi .eq (BitVec.ofNat 32 (i 0).val) 0#32)) 0#32) = 1#1
/-- It holds at the first point only. -/
theorem hcond5 : ∀ t : Fin cfg5.N, cond5 (grid5.coords t) ↔ t.val % 16 = 0 :=
  (fun t => by
    have ht : t.val < 16 := Nat.lt_of_lt_of_eq t.isLt N_5
    have e0 : (grid5.coords t 0).val = t.val / 1 % 16 := Pipeline.Grid.coords_val t 0 (by decide) rfl
    simp only [cond5, e0]
    word_cmp
   : ∀ t : Fin grid5.N, cond5 (grid5.coords t) ↔ t.val % 16 = 0)

/-! ## The body's triple -/

set_option maxHeartbeats 1000000 in
/-- The body at the first point: from the inputs' blocks and anything in the output and the scratch, it leaves the mask in the
    scratch and the output block in the output. -/
theorem sound_kernel5_first (c : Dev nD) (E : Set ℕ) (i : grid5.Coords) (arg1 : Memref sig .tc .vmem S1x512x128 .bf16) (harg1 : arg1.IsWhole) (arg2 : Memref sig .tc .vmem S1x1536x128 .bf16) (harg2 : arg2.IsWhole) (arg3 : Memref sig .tc .vmem S1x1536x128 .bf16) (harg3 : arg3.IsWhole) (arg4 : Memref sig .tc .vmem S8x1536 .i32) (harg4 : arg4.IsWhole) (arg5 : Memref sig .tc .vmem S512x128 .f32) (harg5 : arg5.IsWhole) (arg6 : Memref sig .tc .vmem S512x1536 .f32) (harg6 : arg6.IsWhole) (hc : cond5 i)
    (x0 : Vec F S1x512x128 .bf16) (x1 : Vec F S1x1536x128 .bf16) (x2 : Vec F S1x1536x128 .bf16) (x3 : Vec F S8x1536 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3) ∗ owns (c : Thread nD τ) arg6 fullShare (mask5 x3)) -∗ K ⟨⟩))
      ⊢ wp frame (wpE (defs₀ (F := F)) Variants.none c none) E (cc5__attn_kernel i arg1 harg1 arg2 harg2 arg3 harg3 arg4 harg4 arg5 harg5 arg6 harg6) K := by
  simp only [cc5__attn_kernel_eq_skeleton]; unfold cc5__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover5_4 _)).trans ?_
    unfold sound_kernel5_first.sl.v8 sound_kernel5_first.sl.H5_1
    rw [View.readCov_eq_canon_ld _ _ r5_m (coverM5 _)]
    rfl
  iexists _; isplitr
  swap; · iexact H5
  ipureintro
  exact View.read_writes_eq_canon _ _ _ (coverM5 _)

set_option maxHeartbeats 1000000 in
/-- The body at a later point: the scratch is read and kept. -/
theorem sound_kernel5_later (c : Dev nD) (E : Set ℕ) (i : grid5.Coords) (arg1 : Memref sig .tc .vmem S1x512x128 .bf16) (harg1 : arg1.IsWhole) (arg2 : Memref sig .tc .vmem S1x1536x128 .bf16) (harg2 : arg2.IsWhole) (arg3 : Memref sig .tc .vmem S1x1536x128 .bf16) (harg3 : arg3.IsWhole) (arg4 : Memref sig .tc .vmem S8x1536 .i32) (harg4 : arg4.IsWhole) (arg5 : Memref sig .tc .vmem S512x128 .f32) (harg5 : arg5.IsWhole) (arg6 : Memref sig .tc .vmem S512x1536 .f32) (harg6 : arg6.IsWhole) (hc : ¬ cond5 i)
    (x0 : Vec F S1x512x128 .bf16) (x1 : Vec F S1x1536x128 .bf16) (x2 : Vec F S1x1536x128 .bf16) (x3 : Vec F S8x1536 .i32) (d : Vec F S512x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outM5 x0 x1 x2 d) ∗ owns (c : Thread nD τ) arg6 fullShare d) -∗ K ⟨⟩))
      ⊢ wp frame (wpE (defs₀ (F := F)) Variants.none c none) E (cc5__attn_kernel i arg1 harg1 arg2 harg2 arg3 harg3 arg4 harg4 arg5 harg5 arg6 harg6) K := by
  simp only [cc5__attn_kernel_eq_skeleton]; unfold cc5__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover5_4 _)
  iexists f5; isplitr; · ipureintro; rfl
  iexact H5

/-! ## The pipeline's proof data -/

/-- The scratch operand as a memref. -/
abbrev scM5 : Memref sig .tc .vmem S512x1536 .f32 := Memref.whole cc5_scratch0

/-- The invariant before point `n`: the scratch is owned, and holds the mask once a point has run; the other scoped buffers and
    the generator register are at some contents. -/
def Phi5 (c : Dev nD) (n : ℕ) : sProp 𝕄 :=
  iprop((∃ d, owns (c : Thread nD τ) scM5 fullShare d ∗ ⌜∀ t : Fin cfg5.N, n ≠ 0 → d = mask5 (x5_3 V c t)⌝)
    ∗ Pipeline.scopedRestBut (Ix := Unit) (Name := ℕ) (U := UR sig nD τ) (Lvl := ℕ) (Val := Elt F) spec5 c [cc5_scratch0]
    ∗ ∃ r, prngReg c r)

/-- The proof data of pipeline 5 on core `c`: the arrays as the region finds them; after the body each input's buffer at its
    block and the output's at `out5_4` of the input blocks; the invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => x5_0 V c t
    | ⟨1, _⟩ => x5_1 V c t
    | ⟨2, _⟩ => x5_2 V c t
    | ⟨3, _⟩ => x5_3 V c t
    | ⟨4, _⟩ => out5_4 (x5_0 V c t) (x5_1 V c t) (x5_2 V c t) (x5_3 V c t)
  Φ n := Phi5 V c n.val
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = x5_0 V c t := by dsimp only [dat5]
/-- What the body leaves in window 1. -/
theorem after5_1 (c : Dev nD) (t : Fin cfg5.N) : (dat5 V c).after 1 t = x5_1 V c t := by dsimp only [dat5]
/-- What the body leaves in window 2. -/
theorem after5_2 (c : Dev nD) (t : Fin cfg5.N) : (dat5 V c).after 2 t = x5_2 V c t := by dsimp only [dat5]
/-- What the body leaves in window 3. -/
theorem after5_3 (c : Dev nD) (t : Fin cfg5.N) : (dat5 V c).after 3 t = x5_3 V c t := by dsimp only [dat5]
/-- What the body leaves in window 4. -/
theorem after5_4 (c : Dev nD) (t : Fin cfg5.N) : (dat5 V c).after 4 t = out5_4 (x5_0 V c t) (x5_1 V c t) (x5_2 V c t) (x5_3 V c t) := by dsimp only [dat5]

/-- Each input's staging buffer holds its block at every point. -/
theorem before5_0 (c : Dev nD) (t : Fin cfg5.N) (d) : (dat5 V c).before 0 t d = x5_0 V c t :=
  before5_0_of V (dat5 V c) (A_eq5 V c 0) (after5_0 V c) t d
/-- What the body finds in window 1. -/
theorem before5_1 (c : Dev nD) (t : Fin cfg5.N) (d) : (dat5 V c).before 1 t d = x5_1 V c t :=
  before5_1_of V (dat5 V c) (A_eq5 V c 1) (after5_1 V c) t d
/-- What the body finds in window 2. -/
theorem before5_2 (c : Dev nD) (t : Fin cfg5.N) (d) : (dat5 V c).before 2 t d = x5_2 V c t :=
  before5_2_of V (dat5 V c) (A_eq5 V c 2) (after5_2 V c) t d
/-- What the body finds in window 3. -/
theorem before5_3 (c : Dev nD) (t : Fin cfg5.N) (d) : (dat5 V c).before 3 t d = x5_3 V c t :=
  before5_3_of V (dat5 V c) (A_eq5 V c 3) (after5_3 V c) t d

/-! ## The body obligation -/

/-- What the body is called with at point `t`, window by window. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- What it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

set_option maxHeartbeats 800000 in
/-- The body at any point: the first point writes the mask, a later one finds it in the scratch. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = Phi5 V c (t.val + 1) from rfl,
    show (dat5 V c).Φ t.castSucc = Phi5 V c t.val from rfl,
    show (dat5 V c).owesAt () t.succ = (dat5 V c).owesAt () t.castSucc from rfl,
    after5_0, after5_1, after5_2, after5_3, after5_4]
  unfold Phi5
  have hN : t.val < 16 := lt_of_lt_of_eq t.isLt (show cfg5.N = 16 from N_5)
  by_cases h0 : t.val % 16 = 0
  · iintro ⟨⟨⟨%ds, HS, -⟩, Hr, Hg⟩, Ho, ⟨%d0, H0⟩, ⟨%d1, H1⟩, ⟨%d2, H2⟩, ⟨%d3, H3⟩, ⟨%d4, H4⟩⟩
    iapply (sound_kernel5_first c Set.univ (grid5.coords t) _ _ _ _ _ _ _ _ _ _ _ _ ((hcond5 t).mpr h0) (x5_0 V c t) (x5_1 V c t) (x5_2 V c t) (x5_3 V c t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hr Hg]
    · isplitl [HS]
      · iexists _; isplitl [HS]; · iexact HS
        ipureintro; exact fun t2 _ => congrArg mask5 (x5_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4
  · iintro ⟨⟨⟨%ds, HS, %hds⟩, Hr, Hg⟩, Ho, ⟨%d0, H0⟩, ⟨%d1, H1⟩, ⟨%d2, H2⟩, ⟨%d3, H3⟩, ⟨%d4, H4⟩⟩
    obtain rfl := hds t (fun e => h0 (by rw [e]))
    unfold out5_4
    iapply (sound_kernel5_later c Set.univ (grid5.coords t) _ _ _ _ _ _ _ _ _ _ _ _ (fun h => h0 ((hcond5 t).mp h)) (x5_0 V c t) (x5_1 V c t) (x5_2 V c t) (x5_3 V c t) (mask5 (x5_3 V c t)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]
      · iexists _; isplitl [HS]; · iexact HS
        ipureintro; exact fun t2 _ => congrArg mask5 (x5_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The body obligation of the pipeline, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

/-- The region's start: every scoped buffer and the generator register make the invariant before the first point. -/
theorem Phi5_in (c : Dev nD) : iprop((∃ r, prngReg c r) ∗ Pipeline.scopedRest (Ix := Unit) (Name := ℕ) (U := UR sig nD τ) (Lvl := ℕ) (Val := Elt F) spec5 c) ⊢ Phi5 V c 0 := by
  unfold Phi5; rw [scopedRest5_split]
  iintro ⟨Hg, ⟨%f, Hs⟩, Hr⟩
  isplitl [Hs]
  · iexists f; isplitl [Hs]
    · rw [owns_whole]; iexact Hs
    ipureintro; exact fun _ h => absurd rfl h
  isplitl [Hr]; · iexact Hr
  iexact Hg

/-- The region's end: the invariant gives back every scoped buffer and the generator register. -/
theorem Phi5_out (c : Dev nD) (n : ℕ) : Phi5 V c n ⊢ iprop(Pipeline.scopedRest (Ix := Unit) (Name := ℕ) (U := UR sig nD τ) (Lvl := ℕ) (Val := Elt F) spec5 c ∗ (∃ r, prngReg c r)) := by
  unfold Phi5; rw [scopedRest5_split]
  simp only [owns_whole]
  iintro ⟨⟨%f, Hs, -⟩, Hr, Hg⟩
  isplitl [Hs Hr]
  · isplitl [Hs]; · iexists f; iexact Hs
    iexact Hr
  iexact Hg

end Cert.KernelIdeal.Whole

end
-- ==== Proof.KernelIdeal.Body6.lean ====
/- Region 6 (attention of query block 3): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 6: attention of query block 3 (rows from 1536) over the first 2048 positions -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What window 0's staging buffer holds at point `t`: its block. -/
abbrev x6_0 (c : Dev nD) (t : Fin cfg6.N) : ((cfg6.win 0).xblock (cfg6.grid.coords t)).Idx → Elt F (cfg6.win 0).elt := iblk6 V c 0 t
/-- Window 0's staging buffer holds its block at every point, for any proof data with that array whose body leaves it. -/
theorem before6_0_of {c : Dev nD} (dat : Dat τ (Elt F) Unit ℕ (UR sig nD τ) ℕ cfg6 c) (hA : dat.A 0 = V c (Pipeline.arrRef spec6 0))
    (hafter : ∀ t, dat.after 0 t = x6_0 V c t) (t : Fin cfg6.N) (d) : dat.before 0 t d = x6_0 V c t :=
  (dat.before_in_eq_fetched 0 rfl (fun _ => rfl) (fun _ _ _ => rfl) (fun t => by rw [hafter]; unfold Dat.blockOf x6_0 iblk6; rw [hA]; try rfl) t d).trans
    (by unfold Dat.fetched Dat.blockOf x6_0 iblk6; rw [hA]; try rfl)
/-- What window 1's staging buffer holds at point `t`: its block. -/
abbrev x6_1 (c : Dev nD) (t : Fin cfg6.N) : ((cfg6.win 1).xblock (cfg6.grid.coords t)).Idx → Elt F (cfg6.win 1).elt := iblk6 V c 1 t
/-- Window 1's staging buffer holds its block at every point, for any proof data with that array whose body leaves it. -/
theorem before6_1_of {c : Dev nD} (dat : Dat τ (Elt F) Unit ℕ (UR sig nD τ) ℕ cfg6 c) (hA : dat.A 1 = V c (Pipeline.arrRef spec6 1))
    (hafter : ∀ t, dat.after 1 t = x6_1 V c t) (t : Fin cfg6.N) (d) : dat.before 1 t d = x6_1 V c t :=
  (dat.before_in_eq_fetched 1 rfl (fun _ => rfl) (fun _ _ _ => rfl) (fun t => by rw [hafter]; unfold Dat.blockOf x6_1 iblk6; rw [hA]; try rfl) t d).trans
    (by unfold Dat.fetched Dat.blockOf x6_1 iblk6; rw [hA]; try rfl)
/-- What window 2's staging buffer holds at point `t`: its block. -/
abbrev x6_2 (c : Dev nD) (t : Fin cfg6.N) : ((cfg6.win 2).xblock (cfg6.grid.coords t)).Idx → Elt F (cfg6.win 2).elt := iblk6 V c 2 t
/-- Window 2's staging buffer holds its block at every point, for any proof data with that array whose body leaves it. -/
theorem before6_2_of {c : Dev nD} (dat : Dat τ (Elt F) Unit ℕ (UR sig nD τ) ℕ cfg6 c) (hA : dat.A 2 = V c (Pipeline.arrRef spec6 2))
    (hafter : ∀ t, dat.after 2 t = x6_2 V c t) (t : Fin cfg6.N) (d) : dat.before 2 t d = x6_2 V c t :=
  (dat.before_in_eq_fetched 2 rfl (fun _ => rfl) (fun _ _ _ => rfl) (fun t => by rw [hafter]; unfold Dat.blockOf x6_2 iblk6; rw [hA]; try rfl) t d).trans
    (by unfold Dat.fetched Dat.blockOf x6_2 iblk6; rw [hA]; try rfl)
/-- What window 3's staging buffer holds at point `t`: its block. -/
abbrev x6_3 (c : Dev nD) (t : Fin cfg6.N) : ((cfg6.win 3).xblock (cfg6.grid.coords t)).Idx → Elt F (cfg6.win 3).elt := iblk6 V c 3 t
/-- Window 3's staging buffer holds its block at every point, for any proof data with that array whose body leaves it. -/
theorem before6_3_of {c : Dev nD} (dat : Dat τ (Elt F) Unit ℕ (UR sig nD τ) ℕ cfg6 c) (hA : dat.A 3 = V c (Pipeline.arrRef spec6 3))
    (hafter : ∀ t, dat.after 3 t = x6_3 V c t) (t : Fin cfg6.N) (d) : dat.before 3 t d = x6_3 V c t :=
  (dat.before_in_eq_fetched 3 rfl (fun _ => rfl) (fun _ _ _ => rfl) (fun t => by rw [hafter]; unfold Dat.blockOf x6_3 iblk6; rw [hA]; try rfl) t d).trans
    (by unfold Dat.fetched Dat.blockOf x6_3 iblk6; rw [hA]; try rfl)

/-- The positions' block is the same at every point. -/
theorem x6_3_const (c : Dev nD) (t t' : Fin cfg6.N) : x6_3 V c t = x6_3 V c t' := rfl

/-! ## The body's accesses and what it leaves -/

abbrev r6_p : Rect S8x2048 := Rect.unit (s := S8x2048) ![0, 0] S1x2048.size inb_S8x2048_S1x2048_0_0
abbrev r6_q : Rect S1x512x128 := Rect.unit (s := S1x512x128) ![0, 0, 0] S1x512x128.size inb_S1x512x128_S1x512x128_0_0_0
abbrev r6_k : Rect S1x2048x128 := Rect.unit (s := S1x2048x128) ![0, 0, 0] S1x2048x128.size inb_S1x2048x128_S1x2048x128_0_0_0
abbrev r6_m : Rect S512x2048 := Rect.unit (s := S512x2048) ![0, 0] S512x2048.size inb_S512x2048_S512x2048_0_0
abbrev r6_o : Rect S512x128 := Rect.unit (s := S512x128) ![0, 0] S512x128.size inb_S512x128_S512x128_0_0

/-- The mask that the first point leaves in the scratch, from the positions' block. -/
def mask6 (x3 : Vec F S8x2048 .i32) : Vec F S512x2048 .f32 :=
  View.canon [⟨r6_m, k6_pay1 (View.ld x3 r6_p)⟩]

/-- The output block that a point leaves, the scratch holding `d`. -/
def outM6 (x0 : Vec F S1x512x128 .bf16) (x1 : Vec F S1x2048x128 .bf16) (x2 : Vec F S1x2048x128 .bf16) (d : Vec F S512x2048 .f32) : Vec F S512x128 .f32 :=
  View.canon [⟨r6_o, k6_pay2 (View.ld x0 r6_q) (View.ld x1 r6_k) (View.ld d r6_m) (View.ld x2 r6_k)⟩]

/-- The output block of a point, from the input blocks. -/
def out6_4 (x0 : Vec F S1x512x128 .bf16) (x1 : Vec F S1x2048x128 .bf16) (x2 : Vec F S1x2048x128 .bf16) (x3 : Vec F S8x2048 .i32) : Vec F S512x128 .f32 :=
  outM6 x0 x1 x2 (mask6 x3)

/-- The output's store covers its buffer. -/
theorem cover6_4 (p0 : Vec F S512x128 .f32) (y : S512x128.Idx) :
    ∃ pc ∈ ([⟨r6_o, p0⟩] : List (View.Piece (Elt F) S512x128 .f32)), y ∈ pc.1.set :=
  View.cover_of_tiled [⟨r6_o, p0⟩] S512x128.size (by rfl) y

/-- The mask's store covers the scratch. -/
theorem coverM6 (p0 : Vec F S512x2048 .f32) (y : S512x2048.Idx) :
    ∃ pc ∈ ([⟨r6_m, p0⟩] : List (View.Piece (Elt F) S512x2048 .f32)), y ∈ pc.1.set :=
  View.cover_of_tiled [⟨r6_m, p0⟩] S512x2048.size (by rfl) y

/-- The condition of the body's branch, from the grid coordinates. -/
abbrev cond6 (i : grid6.Coords) : Prop := (Scalar.cmpi .ne (Scalar.extui (Scalar.cmpi .eq (BitVec.ofNat 32 (i 0).val) 0#32)) 0#32) = 1#1
/-- It holds at the first point only. -/
theorem hcond6 : ∀ t : Fin cfg6.N, cond6 (grid6.coords t) ↔ t.val % 16 = 0 :=
  (fun t => by
    have ht : t.val < 16 := Nat.lt_of_lt_of_eq t.isLt N_6
    have e0 : (grid6.coords t 0).val = t.val / 1 % 16 := Pipeline.Grid.coords_val t 0 (by decide) rfl
    simp only [cond6, e0]
    word_cmp
   : ∀ t : Fin grid6.N, cond6 (grid6.coords t) ↔ t.val % 16 = 0)

/-! ## The body's triple -/

set_option maxHeartbeats 1000000 in
/-- The body at the first point: from the inputs' blocks and anything in the output and the scratch, it leaves the mask in the
    scratch and the output block in the output. -/
theorem sound_kernel6_first (c : Dev nD) (E : Set ℕ) (i : grid6.Coords) (arg1 : Memref sig .tc .vmem S1x512x128 .bf16) (harg1 : arg1.IsWhole) (arg2 : Memref sig .tc .vmem S1x2048x128 .bf16) (harg2 : arg2.IsWhole) (arg3 : Memref sig .tc .vmem S1x2048x128 .bf16) (harg3 : arg3.IsWhole) (arg4 : Memref sig .tc .vmem S8x2048 .i32) (harg4 : arg4.IsWhole) (arg5 : Memref sig .tc .vmem S512x128 .f32) (harg5 : arg5.IsWhole) (arg6 : Memref sig .tc .vmem S512x2048 .f32) (harg6 : arg6.IsWhole) (hc : cond6 i)
    (x0 : Vec F S1x512x128 .bf16) (x1 : Vec F S1x2048x128 .bf16) (x2 : Vec F S1x2048x128 .bf16) (x3 : Vec F S8x2048 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3) ∗ owns (c : Thread nD τ) arg6 fullShare (mask6 x3)) -∗ K ⟨⟩))
      ⊢ wp frame (wpE (defs₀ (F := F)) Variants.none c none) E (cc6__attn_kernel i arg1 harg1 arg2 harg2 arg3 harg3 arg4 harg4 arg5 harg5 arg6 harg6) K := by
  simp only [cc6__attn_kernel_eq_skeleton]; unfold cc6__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover6_4 _)).trans ?_
    unfold sound_kernel6_first.sl.v8 sound_kernel6_first.sl.H5_1
    rw [View.readCov_eq_canon_ld _ _ r6_m (coverM6 _)]
    rfl
  iexists _; isplitr
  swap; · iexact H5
  ipureintro
  exact View.read_writes_eq_canon _ _ _ (coverM6 _)

set_option maxHeartbeats 1000000 in
/-- The body at a later point: the scratch is read and kept. -/
theorem sound_kernel6_later (c : Dev nD) (E : Set ℕ) (i : grid6.Coords) (arg1 : Memref sig .tc .vmem S1x512x128 .bf16) (harg1 : arg1.IsWhole) (arg2 : Memref sig .tc .vmem S1x2048x128 .bf16) (harg2 : arg2.IsWhole) (arg3 : Memref sig .tc .vmem S1x2048x128 .bf16) (harg3 : arg3.IsWhole) (arg4 : Memref sig .tc .vmem S8x2048 .i32) (harg4 : arg4.IsWhole) (arg5 : Memref sig .tc .vmem S512x128 .f32) (harg5 : arg5.IsWhole) (arg6 : Memref sig .tc .vmem S512x2048 .f32) (harg6 : arg6.IsWhole) (hc : ¬ cond6 i)
    (x0 : Vec F S1x512x128 .bf16) (x1 : Vec F S1x2048x128 .bf16) (x2 : Vec F S1x2048x128 .bf16) (x3 : Vec F S8x2048 .i32) (d : Vec F S512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outM6 x0 x1 x2 d) ∗ owns (c : Thread nD τ) arg6 fullShare d) -∗ K ⟨⟩))
      ⊢ wp frame (wpE (defs₀ (F := F)) Variants.none c none) E (cc6__attn_kernel i arg1 harg1 arg2 harg2 arg3 harg3 arg4 harg4 arg5 harg5 arg6 harg6) K := by
  simp only [cc6__attn_kernel_eq_skeleton]; unfold cc6__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_4 _)
  iexists f5; isplitr; · ipureintro; rfl
  iexact H5

/-! ## The pipeline's proof data -/

/-- The scratch operand as a memref. -/
abbrev scM6 : Memref sig .tc .vmem S512x2048 .f32 := Memref.whole cc6_scratch0

/-- The invariant before point `n`: the scratch is owned, and holds the mask once a point has run; the other scoped buffers and
    the generator register are at some contents. -/
def Phi6 (c : Dev nD) (n : ℕ) : sProp 𝕄 :=
  iprop((∃ d, owns (c : Thread nD τ) scM6 fullShare d ∗ ⌜∀ t : Fin cfg6.N, n ≠ 0 → d = mask6 (x6_3 V c t)⌝)
    ∗ Pipeline.scopedRestBut (Ix := Unit) (Name := ℕ) (U := UR sig nD τ) (Lvl := ℕ) (Val := Elt F) spec6 c [cc6_scratch0]
    ∗ ∃ r, prngReg c r)

/-- The proof data of pipeline 6 on core `c`: the arrays as the region finds them; after the body each input's buffer at its
    block and the output's at `out6_4` of the input blocks; the invariant `Phi6`; nothing owed; full shares. -/
def dat6 (c : Dev nD) : Dat τ (Elt F) Unit ℕ (UR sig nD τ) ℕ cfg6 c where
  A w := V c (Pipeline.arrRef spec6 w)
  after w t := match w with
    | ⟨0, _⟩ => x6_0 V c t
    | ⟨1, _⟩ => x6_1 V c t
    | ⟨2, _⟩ => x6_2 V c t
    | ⟨3, _⟩ => x6_3 V c t
    | ⟨4, _⟩ => out6_4 (x6_0 V c t) (x6_1 V c t) (x6_2 V c t) (x6_3 V c t)
  Φ n := Phi6 V c n.val
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = x6_0 V c t := by dsimp only [dat6]
/-- What the body leaves in window 1. -/
theorem after6_1 (c : Dev nD) (t : Fin cfg6.N) : (dat6 V c).after 1 t = x6_1 V c t := by dsimp only [dat6]
/-- What the body leaves in window 2. -/
theorem after6_2 (c : Dev nD) (t : Fin cfg6.N) : (dat6 V c).after 2 t = x6_2 V c t := by dsimp only [dat6]
/-- What the body leaves in window 3. -/
theorem after6_3 (c : Dev nD) (t : Fin cfg6.N) : (dat6 V c).after 3 t = x6_3 V c t := by dsimp only [dat6]
/-- What the body leaves in window 4. -/
theorem after6_4 (c : Dev nD) (t : Fin cfg6.N) : (dat6 V c).after 4 t = out6_4 (x6_0 V c t) (x6_1 V c t) (x6_2 V c t) (x6_3 V c t) := by dsimp only [dat6]

/-- Each input's staging buffer holds its block at every point. -/
theorem before6_0 (c : Dev nD) (t : Fin cfg6.N) (d) : (dat6 V c).before 0 t d = x6_0 V c t :=
  before6_0_of V (dat6 V c) (A_eq6 V c 0) (after6_0 V c) t d
/-- What the body finds in window 1. -/
theorem before6_1 (c : Dev nD) (t : Fin cfg6.N) (d) : (dat6 V c).before 1 t d = x6_1 V c t :=
  before6_1_of V (dat6 V c) (A_eq6 V c 1) (after6_1 V c) t d
/-- What the body finds in window 2. -/
theorem before6_2 (c : Dev nD) (t : Fin cfg6.N) (d) : (dat6 V c).before 2 t d = x6_2 V c t :=
  before6_2_of V (dat6 V c) (A_eq6 V c 2) (after6_2 V c) t d
/-- What the body finds in window 3. -/
theorem before6_3 (c : Dev nD) (t : Fin cfg6.N) (d) : (dat6 V c).before 3 t d = x6_3 V c t :=
  before6_3_of V (dat6 V c) (A_eq6 V c 3) (after6_3 V c) t d

/-! ## The body obligation -/

/-- What the body is called with at point `t`, window by window. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- What it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

set_option maxHeartbeats 800000 in
/-- The body at any point: the first point writes the mask, a later one finds it in the scratch. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = Phi6 V c (t.val + 1) from rfl,
    show (dat6 V c).Φ t.castSucc = Phi6 V c t.val from rfl,
    show (dat6 V c).owesAt () t.succ = (dat6 V c).owesAt () t.castSucc from rfl,
    after6_0, after6_1, after6_2, after6_3, after6_4]
  unfold Phi6
  have hN : t.val < 16 := lt_of_lt_of_eq t.isLt (show cfg6.N = 16 from N_6)
  by_cases h0 : t.val % 16 = 0
  · iintro ⟨⟨⟨%ds, HS, -⟩, Hr, Hg⟩, Ho, ⟨%d0, H0⟩, ⟨%d1, H1⟩, ⟨%d2, H2⟩, ⟨%d3, H3⟩, ⟨%d4, H4⟩⟩
    iapply (sound_kernel6_first c Set.univ (grid6.coords t) _ _ _ _ _ _ _ _ _ _ _ _ ((hcond6 t).mpr h0) (x6_0 V c t) (x6_1 V c t) (x6_2 V c t) (x6_3 V c t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hr Hg]
    · isplitl [HS]
      · iexists _; isplitl [HS]; · iexact HS
        ipureintro; exact fun t2 _ => congrArg mask6 (x6_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4
  · iintro ⟨⟨⟨%ds, HS, %hds⟩, Hr, Hg⟩, Ho, ⟨%d0, H0⟩, ⟨%d1, H1⟩, ⟨%d2, H2⟩, ⟨%d3, H3⟩, ⟨%d4, H4⟩⟩
    obtain rfl := hds t (fun e => h0 (by rw [e]))
    unfold out6_4
    iapply (sound_kernel6_later c Set.univ (grid6.coords t) _ _ _ _ _ _ _ _ _ _ _ _ (fun h => h0 ((hcond6 t).mp h)) (x6_0 V c t) (x6_1 V c t) (x6_2 V c t) (x6_3 V c t) (mask6 (x6_3 V c t)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]
      · iexists _; isplitl [HS]; · iexact HS
        ipureintro; exact fun t2 _ => congrArg mask6 (x6_3_const V c t t2)
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The body obligation of the pipeline, at every point. -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

/-- The region's start: every scoped buffer and the generator register make the invariant before the first point. -/
theorem Phi6_in (c : Dev nD) : iprop((∃ r, prngReg c r) ∗ Pipeline.scopedRest (Ix := Unit) (Name := ℕ) (U := UR sig nD τ) (Lvl := ℕ) (Val := Elt F) spec6 c) ⊢ Phi6 V c 0 := by
  unfold Phi6; rw [scopedRest6_split]
  iintro ⟨Hg, ⟨%f, Hs⟩, Hr⟩
  isplitl [Hs]
  · iexists f; isplitl [Hs]
    · rw [owns_whole]; iexact Hs
    ipureintro; exact fun _ h => absurd rfl h
  isplitl [Hr]; · iexact Hr
  iexact Hg

/-- The region's end: the invariant gives back every scoped buffer and the generator register. -/
theorem Phi6_out (c : Dev nD) (n : ℕ) : Phi6 V c n ⊢ iprop(Pipeline.scopedRest (Ix := Unit) (Name := ℕ) (U := UR sig nD τ) (Lvl := ℕ) (Val := Elt F) spec6 c ∗ (∃ r, prngReg c r)) := by
  unfold Phi6; rw [scopedRest6_split]
  simp only [owns_whole]
  iintro ⟨⟨%f, Hs, -⟩, Hr, Hg⟩
  isplitl [Hs Hr]
  · isplitl [Hs]; · iexists f; iexact Hs
    iexact Hr
  iexact Hg

end Cert.KernelIdeal.Whole

end
-- ==== Proof.KernelIdeal.Body7.lean ====
/- Region 7 (the output projection): what its body leaves, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 7 of @main: custom_call 7, `cc7__outproj_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for ANY proof
    data whose array is `V`'s (`hA`) and whose body leaves the block in place (`hafter`): the library's `Dat.before_in_eq_fetched` (unfetched, the index has not moved), the window uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S512x2048 := Rect.unit (s := S512x2048) ![0, 0] S512x2048.size inb_S512x2048_S512x2048_0_0
abbrev r7_1 : Rect S2048x2048 := Rect.unit (s := S2048x2048) ![0, 0] S2048x2048.size inb_S2048x2048_S2048x2048_0_0

/-! ## What the body leaves in each output window's buffer -/

/-- Window 2's staging buffer after the body, from the input windows' blocks: its 1 store as pieces, LAST
    FIRST. -/
def out7_2 (x0 : Vec F S512x2048 .f32) (x1 : Vec F S2048x2048 .f32) : Vec F S512x2048 .f32 :=
  View.canon [⟨r7_0, k7_pay1 (View.ld x0 r7_0) (View.ld x1 r7_1)⟩]

/-- Its stores tile the buffer (checked by evaluation), so they cover it. -/
theorem cover7_2 (p0 : Vec F S512x2048 .f32) (y : S512x2048.Idx) :
    ∃ pc ∈ ([⟨r7_0, p0⟩] : List (View.Piece (Elt F) S512x2048 .f32)), y ∈ pc.1.set :=
  View.cover_of_tiled [⟨r7_0, p0⟩] S512x2048.size (by rfl) y

/-! ## The body's triple -/

set_option maxHeartbeats 1000000 in
/-- The kernel body on whole staging memrefs, the inputs' at read contents `xW` and the outputs' at anything, runs to
    the continuation holding the inputs' as they were and each output's at `out7_W` of the inputs': the printed functions
    are their skeletons (`Gen.*_eq_skeleton`), which `sl_exec` runs, through every part call. -/
theorem sound_kernel7 (c : Dev nD) (E : Set ℕ) (i : grid7.Coords) (arg1 : Memref sig .tc .vmem S512x2048 .f32) (harg1 : arg1.IsWhole) (arg2 : Memref sig .tc .vmem S2048x2048 .f32) (harg2 : arg2.IsWhole) (arg3 : Memref sig .tc .vmem S512x2048 .f32) (harg3 : arg3.IsWhole)
    (x0 : Vec F S512x2048 .f32) (x1 : Vec F S2048x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__outproj_kernel i arg1 harg1 arg2 harg2 arg3 harg3) K := by
  simp only [cc7__outproj_kernel_eq_skeleton]; unfold cc7__outproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of pipeline 7 on core `c`: the arrays as the region finds them (`V`); after the body at
    point `t` each input's buffer at its block and each output's at `out7_W` of the input blocks; the invariant the
    class's; nothing owed;
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents, by projecting the definition (`dsimp`): a region record cites
    this for its arrays rather than have Lean unfold `V`, the fold through @main up to the region's entry. -/
theorem A_eq7 (c : Dev nD) (w : Fin cfg7.W) : (dat7 V c).A w = V c (Pipeline.arrRef spec7 w) := by
  dsimp only [dat7]

/-- What the body leaves, window by window (the proof data's `match` reduced by `dsimp`, never `rfl`: the library's `Dat`). -/
theorem after7_0 (c : Dev nD) (t : Fin cfg7.N) : (dat7 V c).after 0 t = iblk7 V c 0 t := by dsimp only [dat7]
/-- What the body leaves in window 1. -/
theorem after7_1 (c : Dev nD) (t : Fin cfg7.N) : (dat7 V c).after 1 t = iblk7 V c 1 t := by dsimp only [dat7]
/-- What the body leaves in window 2. -/
theorem after7_2 (c : Dev nD) (t : Fin cfg7.N) : (dat7 V c).after 2 t = out7_2 (iblk7 V c 0 t) (iblk7 V c 1 t) := by dsimp only [dat7]

/-- Each input's current staging buffer holds its block at every point, fetched there or not (`beforeK_W_of`). -/
theorem before7_0 (c : Dev nD) (t : Fin cfg7.N) (d) : (dat7 V c).before 0 t d = iblk7 V c 0 t :=
  before7_0_of V (dat7 V c) (A_eq7 V c 0) (after7_0 V c) t d
/-- What the body finds in window 1. -/
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks (`before7_W`), so `sound_kernel7` applies; the invariant and
    the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt7` spells it. -/
theorem defs₀_row7 (t : Fin cfg7.N) :
    defs₀ (F := F) .tc cfg7.body (cfg7.bodyArgs t (cfg7.slots t)) = bodyAt7 t := by
  unfold defs₀; rw [Defs.onTc_tc]

/-- The library's body obligation, at every point: the body's triple restated. -/
theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

end Cert.KernelIdeal.Whole

end
-- ==== Proof.KernelIdeal.Bounds.lean ====
/- The contents of the buffers at each boundary between the host stretches and the regions of @main. -/
module

public import proofs.«01_k».proof.Proof.KernelIdeal.Body0
public import proofs.«01_k».proof.Proof.KernelIdeal.Body1
public import proofs.«01_k».proof.Proof.KernelIdeal.Body2
public import proofs.«01_k».proof.Proof.KernelIdeal.Body3
public import proofs.«01_k».proof.Proof.KernelIdeal.Body4
public import proofs.«01_k».proof.Proof.KernelIdeal.Body5
public import proofs.«01_k».proof.Proof.KernelIdeal.Body6
public import proofs.«01_k».proof.Proof.KernelIdeal.Body7

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3, main_cst_0, main_v4, main_v5, main_cst_1, main_v6, main_v7, main_cst_2, main_v8, main_v9, main_cst_3, main_v10, main_v11, main_v12, main_v13, main_v14, main_v15, main_v16, main_v17, main_v18, main_v19, main_v20, main_v21]
/-- The references that this segment of host operations writes are the listed ones. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v24, main_cst_4, main_v25, main_cst_5, main_v26, main_v27, main_v28, main_v29, main_v30, main_v31, main_cst_6, main_v32, main_v33, main_v34, main_v35, main_cst_7, main_v36, main_v37]
/-- The references that this segment of host operations writes are the listed ones. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v39, main_v40, main_c, main_v41, main_v42, main_v43, main_c_8]
/-- The references that this segment of host operations writes are the listed ones. -/
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps3_1` allocates a buffer. -/
theorem hostOps3_1_fresh : (hostOps3_1 : List (HloOp τ sig (Elt F))).Forall fun op => op.fresh = ∅ := by
  simp only [List.Forall]; repeat' constructor
/-- The reference each operation of `hostOps3_1` writes, in order. -/
abbrev hostOps3_1_W : List (Ref sig .tc) := [main_call0_v0, main_v44]
/-- The references that this segment of host operations writes are the listed ones. -/
theorem hostOps3_1_writes : (hostOps3_1 : List (HloOp τ sig (Elt F))).Forall fun op => op.writes ⊆ (hostOps3_1_W.map (Proc.devRef (τ := τ) .tc)).toFinset :=
  StableHlo.forall_writes_sub_of_map rfl
/-- `hostOps3_1` writes none of the argument arrays (checked: each argument against each reference it writes). -/
theorem hostOps3_1_args : ∀ a ∈ argRefs, a ∉ hostOps3_1_W := ListAll.forall_mem_of_all_decide (by decide +kernel)

/-- No operation of `hostOps3_2` allocates a buffer. -/
theorem hostOps3_2_fresh : (hostOps3_2 : List (HloOp τ sig (Elt F))).Forall fun op => op.fresh = ∅ := by
  simp only [List.Forall]; repeat' constructor
/-- The reference each operation of `hostOps3_2` writes, in order. -/
abbrev hostOps3_2_W : List (Ref sig .tc) := [main_v45, main_v46, main_v47, main_v48, main_v49]
/-- The references that this segment of host operations writes are the listed ones. -/
theorem hostOps3_2_writes : (hostOps3_2 : List (HloOp τ sig (Elt F))).Forall fun op => op.writes ⊆ (hostOps3_2_W.map (Proc.devRef (τ := τ) .tc)).toFinset :=
  StableHlo.forall_writes_sub_of_map rfl
/-- `hostOps3_2` writes none of the argument arrays (checked: each argument against each reference it writes). -/
theorem hostOps3_2_args : ∀ a ∈ argRefs, a ∉ hostOps3_2_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v54]
/-- The references that this segment of host operations writes are the listed ones. -/
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays (checked: each argument against each reference it writes). -/
theorem hostOps7_args : ∀ a ∈ argRefs, a ∉ hostOps7_W := ListAll.forall_mem_of_all_decide (by decide +kernel)

/-- No operation of `hostOps8` allocates a buffer. -/
theorem hostOps8_fresh : (hostOps8 : List (HloOp τ sig (Elt F))).Forall fun op => op.fresh = ∅ := by
  simp only [List.Forall]; repeat' constructor
/-- The reference each operation of `hostOps8` writes, in order. -/
abbrev hostOps8_W : List (Ref sig .tc) := [main_v56]
/-- The references that this segment of host operations writes are the listed ones. -/
theorem hostOps8_writes : (hostOps8 : List (HloOp τ sig (Elt F))).Forall fun op => op.writes ⊆ (hostOps8_W.map (Proc.devRef (τ := τ) .tc)).toFinset :=
  StableHlo.forall_writes_sub_of_map rfl
/-- `hostOps8` writes none of the argument arrays (checked: each argument against each reference it writes). -/
theorem hostOps8_args : ∀ a ∈ argRefs, a ∉ hostOps8_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The argument arrays hold their launch contents at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The argument arrays hold their launch contents at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
/-- Each of the region's arrays holds at boundary 2 what the pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A reference that is no array of the region holds at boundary 2 what it held at entry. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The argument arrays hold their launch contents at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of the library's `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Region 0 leaves every other buffer as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
/-- Each of the region's arrays holds at boundary 3 what the pipeline leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A reference that is no array of the region holds at boundary 3 what it held at entry. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The argument arrays hold their launch contents at boundary 3. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of the library's `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- Region 1 leaves every other buffer as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The argument arrays hold their launch contents at boundary 4. -/
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered. -/
def W5 (c : Dev nD) : Valuation τ sig (Elt F) :=
  Pipeline.withArrays spec2 c (W4 m ρ c) fun w => (dat2 (V4 m ρ) c).arrAt w cfg2.N
/-- Each of the region's arrays holds at boundary 5 what the pipeline leaves. -/
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
/-- A reference that is no array of the region holds at boundary 5 what it held at entry. -/
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The argument arrays hold their launch contents at boundary 5. -/
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of the library's `unscopedBufs_of_arrays`. -/
theorem hF2 (c : Dev nD) (w : Fin cfg2.W) : (dat2 (V4 m ρ) c).arrAt w cfg2.N = V5 m ρ c (Pipeline.arrRef spec2 w) :=
  (W5_arr m ρ c w).symm
/-- Region 2 leaves every other buffer as it was. -/
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
/-- The argument arrays hold their launch contents at boundary 6. -/
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- After `hostOps3_1`. -/
abbrev W7 : Dev nD → Valuation τ sig (Elt F) := fun c => StableHlo.after hostOps3_1 (W6 m ρ c)
/-- A reference `hostOps3_1` does not write keeps its contents across it. -/
theorem W7_of (c : Dev nD) (r : Ref sig .tc) (h : r ∉ hostOps3_1_W) : W7 m ρ c (Proc.devRef .tc r) = W6 m ρ c (Proc.devRef .tc r) :=
  StableHlo.after_of_writes_sub hostOps3_1 _ hostOps3_1_writes h
/-- The argument arrays hold their launch contents at boundary 7. -/
theorem W7_args (c : Dev nD) : ∀ a ∈ argRefs, W7 m ρ c (Proc.devRef .tc a) = m ((c : Thread nD τ).loc a) :=
  fun a ha => (W7_of m ρ c a (hostOps3_1_args a ha)).trans (W6_args m ρ c a ha)
/-- After `hostOps3_2` (region 3's entry). -/
abbrev W8 : Dev nD → Valuation τ sig (Elt F) := fun c => StableHlo.after hostOps3_2 (W7 m ρ c)
/-- A reference `hostOps3_2` does not write keeps its contents across it. -/
theorem W8_of (c : Dev nD) (r : Ref sig .tc) (h : r ∉ hostOps3_2_W) : W8 m ρ c (Proc.devRef .tc r) = W7 m ρ c (Proc.devRef .tc r) :=
  StableHlo.after_of_writes_sub hostOps3_2 _ hostOps3_2_writes h
/-- The argument arrays hold their launch contents at boundary 8. -/
theorem W8_args (c : Dev nD) : ∀ a ∈ argRefs, W8 m ρ c (Proc.devRef .tc a) = m ((c : Thread nD τ).loc a) :=
  fun a ha => (W8_of m ρ c a (hostOps3_2_args a ha)).trans (W7_args m ρ c a ha)
/-- The same read at the TensorCore's references (what region 3's proof data take). -/
abbrev V8 : (c : Dev nD) → (b : Ref sig .tc) → Buf (Elt F) ((c : Thread nD τ).loc b) := fun c b => W8 m ρ c b
/-- At region 3's exit: its arrays at what the pipeline leaves (the inputs as entered, each output's write-backs
    folded: `Dat.arrAt … N`), every other buffer as entered (region 4's entry). -/
def W9 (c : Dev nD) : Valuation τ sig (Elt F) :=
  Pipeline.withArrays spec3 c (W8 m ρ c) fun w => (dat3 (V8 m ρ) c).arrAt w cfg3.N
/-- Each of the region's arrays holds at boundary 9 what the pipeline leaves. -/
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
/-- A reference that is no array of the region holds at boundary 9 what it held at entry. -/
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- A reference that is none of region 3's OUTPUT arrays keeps its entry contents across it: an input window's
    array is never written back (`Dat.arrAt_in`, `A_eq3`); any other buffer is left as is. -/
theorem W9_of (c : Dev nD) (r : Ref sig .tc) (h : ∀ w : Fin cfg3.W, Pipeline.arrRef spec3 w = r → (cfg3.win w).isOut = false) :
    W9 m ρ c (Proc.devRef .tc r) = W8 m ρ c (Proc.devRef .tc r) := by
  by_cases hw : ∃ w : Fin cfg3.W, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- The argument arrays hold their launch contents at boundary 9. -/
theorem W9_args (c : Dev nD) : ∀ a ∈ argRefs, W9 m ρ c (Proc.devRef .tc a) = m ((c : Thread nD τ).loc a) :=
  fun a ha => (W9_of m ρ c a (argsIn3 a ha)).trans (W8_args m ρ c a ha)
/-- The same read at the TensorCore's references (region 3's exit contents). -/
abbrev V9 : (c : Dev nD) → (b : Ref sig .tc) → Buf (Elt F) ((c : Thread nD τ).loc b) := fun c b => W9 m ρ c b
/-- At region 3's exit each of its arrays holds what the pipeline leaves (`hF3`) and every other buffer what it
    held at entry (`hrest3`): the two hypotheses of the library's `unscopedBufs_of_arrays`. -/
theorem hF3 (c : Dev nD) (w : Fin cfg3.W) : (dat3 (V8 m ρ) c).arrAt w cfg3.N = V9 m ρ c (Pipeline.arrRef spec3 w) :=
  (W9_arr m ρ c w).symm
/-- Region 3 leaves every other buffer as it was. -/
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- At region 4's exit: its arrays at what the pipeline leaves (the inputs as entered, each output's write-backs
    folded: `Dat.arrAt … N`), every other buffer as entered (region 5's entry). -/
def W10 (c : Dev nD) : Valuation τ sig (Elt F) :=
  Pipeline.withArrays spec4 c (W9 m ρ c) fun w => (dat4 (V9 m ρ) c).arrAt w cfg4.N
/-- Each of the region's arrays holds at boundary 10 what the pipeline leaves. -/
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
/-- A reference that is no array of the region holds at boundary 10 what it held at entry. -/
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it: an input window's
    array is never written back (`Dat.arrAt_in`, `A_eq4`); any other buffer is left as is. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
/-- The argument arrays hold their launch contents at boundary 10. -/
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`): the two hypotheses of the library's `unscopedBufs_of_arrays`. -/
theorem hF4 (c : Dev nD) (w : Fin cfg4.W) : (dat4 (V9 m ρ) c).arrAt w cfg4.N = V10 m ρ c (Pipeline.arrRef spec4 w) :=
  (W10_arr m ρ c w).symm
/-- Region 4 leaves every other buffer as it was. -/
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- At region 5's exit: its arrays at what the pipeline leaves (the inputs as entered, each output's write-backs
    folded: `Dat.arrAt … N`), every other buffer as entered (region 6's entry). -/
def W11 (c : Dev nD) : Valuation τ sig (Elt F) :=
  Pipeline.withArrays spec5 c (W10 m ρ c) fun w => (dat5 (V10 m ρ) c).arrAt w cfg5.N
/-- Each of the region's arrays holds at boundary 11 what the pipeline leaves. -/
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
/-- A reference that is no array of the region holds at boundary 11 what it held at entry. -/
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- A reference that is none of region 5's OUTPUT arrays keeps its entry contents across it: an input window's
    array is never written back (`Dat.arrAt_in`, `A_eq5`); any other buffer is left as is. -/
theorem W11_of (c : Dev nD) (r : Ref sig .tc) (h : ∀ w : Fin cfg5.W, Pipeline.arrRef spec5 w = r → (cfg5.win w).isOut = false) :
    W11 m ρ c (Proc.devRef .tc r) = W10 m ρ c (Proc.devRef .tc r) := by
  by_cases hw : ∃ w : Fin cfg5.W, Pipeline.arrRef spec5 w = r
  · obtain ⟨w, rfl⟩ := hw
    exact (W11_arr m ρ c w).trans (((dat5 (V10 m ρ) c).arrAt_in w (h w rfl) _).trans (A_eq5 (V10 m ρ) c w))
  · exact W11_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
/-- The argument arrays hold their launch contents at boundary 11. -/
theorem W11_args (c : Dev nD) : ∀ a ∈ argRefs, W11 m ρ c (Proc.devRef .tc a) = m ((c : Thread nD τ).loc a) :=
  fun a ha => (W11_of m ρ c a (argsIn5 a ha)).trans (W10_args m ρ c a ha)
/-- The same read at the TensorCore's references (region 5's exit contents). -/
abbrev V11 : (c : Dev nD) → (b : Ref sig .tc) → Buf (Elt F) ((c : Thread nD τ).loc b) := fun c b => W11 m ρ c b
/-- At region 5's exit each of its arrays holds what the pipeline leaves (`hF5`) and every other buffer what it
    held at entry (`hrest5`): the two hypotheses of the library's `unscopedBufs_of_arrays`. -/
theorem hF5 (c : Dev nD) (w : Fin cfg5.W) : (dat5 (V10 m ρ) c).arrAt w cfg5.N = V11 m ρ c (Pipeline.arrRef spec5 w) :=
  (W11_arr m ρ c w).symm
/-- Region 5 leaves every other buffer as it was. -/
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- At region 6's exit: its arrays at what the pipeline leaves (the inputs as entered, each output's write-backs
    folded: `Dat.arrAt … N`), every other buffer as entered. -/
def W12 (c : Dev nD) : Valuation τ sig (Elt F) :=
  Pipeline.withArrays spec6 c (W11 m ρ c) fun w => (dat6 (V11 m ρ) c).arrAt w cfg6.N
/-- Each of the region's arrays holds at boundary 12 what the pipeline leaves. -/
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
/-- A reference that is no array of the region holds at boundary 12 what it held at entry. -/
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- A reference that is none of region 6's OUTPUT arrays keeps its entry contents across it: an input window's
    array is never written back (`Dat.arrAt_in`, `A_eq6`); any other buffer is left as is. -/
theorem W12_of (c : Dev nD) (r : Ref sig .tc) (h : ∀ w : Fin cfg6.W, Pipeline.arrRef spec6 w = r → (cfg6.win w).isOut = false) :
    W12 m ρ c (Proc.devRef .tc r) = W11 m ρ c (Proc.devRef .tc r) := by
  by_cases hw : ∃ w : Fin cfg6.W, Pipeline.arrRef spec6 w = r
  · obtain ⟨w, rfl⟩ := hw
    exact (W12_arr m ρ c w).trans (((dat6 (V11 m ρ) c).arrAt_in w (h w rfl) _).trans (A_eq6 (V11 m ρ) c w))
  · exact W12_of_ne m ρ c r fun w e => hw ⟨w, e⟩
/-- Every argument among region 6's arrays is an input window's (checked: each argument against each window). -/
theorem argsIn6 : ∀ a ∈ argRefs, ∀ w : Fin cfg6.W, Pipeline.arrRef spec6 w = a → (cfg6.win w).isOut = false :=
  ListAll.forall_mem_of_all_decide (by decide +kernel)
/-- The argument arrays hold their launch contents at boundary 12. -/
theorem W12_args (c : Dev nD) : ∀ a ∈ argRefs, W12 m ρ c (Proc.devRef .tc a) = m ((c : Thread nD τ).loc a) :=
  fun a ha => (W12_of m ρ c a (argsIn6 a ha)).trans (W11_args m ρ c a ha)
/-- The same read at the TensorCore's references (region 6's exit contents). -/
abbrev V12 : (c : Dev nD) → (b : Ref sig .tc) → Buf (Elt F) ((c : Thread nD τ).loc b) := fun c b => W12 m ρ c b
/-- At region 6's exit each of its arrays holds what the pipeline leaves (`hF6`) and every other buffer what it
    held at entry (`hrest6`): the two hypotheses of the library's `unscopedBufs_of_arrays`. -/
theorem hF6 (c : Dev nD) (w : Fin cfg6.W) : (dat6 (V11 m ρ) c).arrAt w cfg6.N = V12 m ρ c (Pipeline.arrRef spec6 w) :=
  (W12_arr m ρ c w).symm
/-- Region 6 leaves every other buffer as it was. -/
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-- After `hostOps7` (region 7's entry). -/
abbrev W13 : Dev nD → Valuation τ sig (Elt F) := fun c => StableHlo.after hostOps7 (W12 m ρ c)
/-- A reference `hostOps7` does not write keeps its contents across it. -/
theorem W13_of (c : Dev nD) (r : Ref sig .tc) (h : r ∉ hostOps7_W) : W13 m ρ c (Proc.devRef .tc r) = W12 m ρ c (Proc.devRef .tc r) :=
  StableHlo.after_of_writes_sub hostOps7 _ hostOps7_writes h
/-- The argument arrays hold their launch contents at boundary 13. -/
theorem W13_args (c : Dev nD) : ∀ a ∈ argRefs, W13 m ρ c (Proc.devRef .tc a) = m ((c : Thread nD τ).loc a) :=
  fun a ha => (W13_of m ρ c a (hostOps7_args a ha)).trans (W12_args m ρ c a ha)
/-- The same read at the TensorCore's references (what region 7's proof data take). -/
abbrev V13 : (c : Dev nD) → (b : Ref sig .tc) → Buf (Elt F) ((c : Thread nD τ).loc b) := fun c b => W13 m ρ c b
/-- At region 7's exit: its arrays at what the pipeline leaves (the inputs as entered, each output's write-backs
    folded: `Dat.arrAt … N`), every other buffer as entered. -/
def W14 (c : Dev nD) : Valuation τ sig (Elt F) :=
  Pipeline.withArrays spec7 c (W13 m ρ c) fun w => (dat7 (V13 m ρ) c).arrAt w cfg7.N
/-- Each of the region's arrays holds at boundary 14 what the pipeline leaves. -/
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
/-- A reference that is no array of the region holds at boundary 14 what it held at entry. -/
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- A reference that is none of region 7's OUTPUT arrays keeps its entry contents across it: an input window's
    array is never written back (`Dat.arrAt_in`, `A_eq7`); any other buffer is left as is. -/
theorem W14_of (c : Dev nD) (r : Ref sig .tc) (h : ∀ w : Fin cfg7.W, Pipeline.arrRef spec7 w = r → (cfg7.win w).isOut = false) :
    W14 m ρ c (Proc.devRef .tc r) = W13 m ρ c (Proc.devRef .tc r) := by
  by_cases hw : ∃ w : Fin cfg7.W, Pipeline.arrRef spec7 w = r
  · obtain ⟨w, rfl⟩ := hw
    exact (W14_arr m ρ c w).trans (((dat7 (V13 m ρ) c).arrAt_in w (h w rfl) _).trans (A_eq7 (V13 m ρ) c w))
  · exact W14_of_ne m ρ c r fun w e => hw ⟨w, e⟩
/-- Every argument among region 7's arrays is an input window's (checked: each argument against each window). -/
theorem argsIn7 : ∀ a ∈ argRefs, ∀ w : Fin cfg7.W, Pipeline.arrRef spec7 w = a → (cfg7.win w).isOut = false :=
  ListAll.forall_mem_of_all_decide (by decide +kernel)
/-- The argument arrays hold their launch contents at boundary 14. -/
theorem W14_args (c : Dev nD) : ∀ a ∈ argRefs, W14 m ρ c (Proc.devRef .tc a) = m ((c : Thread nD τ).loc a) :=
  fun a ha => (W14_of m ρ c a (argsIn7 a ha)).trans (W13_args m ρ c a ha)
/-- The same read at the TensorCore's references (region 7's exit contents). -/
abbrev V14 : (c : Dev nD) → (b : Ref sig .tc) → Buf (Elt F) ((c : Thread nD τ).loc b) := fun c b => W14 m ρ c b
/-- At region 7's exit each of its arrays holds what the pipeline leaves (`hF7`) and every other buffer what it
    held at entry (`hrest7`): the two hypotheses of the library's `unscopedBufs_of_arrays`. -/
theorem hF7 (c : Dev nD) (w : Fin cfg7.W) : (dat7 (V13 m ρ) c).arrAt w cfg7.N = V14 m ρ c (Pipeline.arrRef spec7 w) :=
  (W14_arr m ρ c w).symm
/-- Region 7 leaves every other buffer as it was. -/
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)

/-- After `hostOps8`. -/
abbrev W15 : Dev nD → Valuation τ sig (Elt F) := fun c => StableHlo.after hostOps8 (W14 m ρ c)
/-- A reference `hostOps8` does not write keeps its contents across it. -/
theorem W15_of (c : Dev nD) (r : Ref sig .tc) (h : r ∉ hostOps8_W) : W15 m ρ c (Proc.devRef .tc r) = W14 m ρ c (Proc.devRef .tc r) :=
  StableHlo.after_of_writes_sub hostOps8 _ hostOps8_writes h
/-- The argument arrays hold their launch contents at boundary 15. -/
theorem W15_args (c : Dev nD) : ∀ a ∈ argRefs, W15 m ρ c (Proc.devRef .tc a) = m ((c : Thread nD τ).loc a) :=
  fun a ha => (W15_of m ρ c a (hostOps8_args a ha)).trans (W14_args m ρ c a ha)

/-! ### The arguments end as launched: no host stretch writes one and no region may change one (a region reads it
    through an input window or bypasses it) -/

/-- Argument 0 is unchanged at the end. -/
theorem W15_main_arg0 (c : Dev nD) : W15 m ρ c (Proc.devRef .tc main_arg0) = m ((c : Thread nD τ).loc main_arg0) :=
  W15_args m ρ c main_arg0 (by decide)
/-- Argument 1 is unchanged at the end. -/
theorem W15_main_arg1 (c : Dev nD) : W15 m ρ c (Proc.devRef .tc main_arg1) = m ((c : Thread nD τ).loc main_arg1) :=
  W15_args m ρ c main_arg1 (by decide)
/-- Argument 2 is unchanged at the end. -/
theorem W15_main_arg2 (c : Dev nD) : W15 m ρ c (Proc.devRef .tc main_arg2) = m ((c : Thread nD τ).loc main_arg2) :=
  W15_args m ρ c main_arg2 (by decide)
/-- Argument 3 is unchanged at the end. -/
theorem W15_main_arg3 (c : Dev nD) : W15 m ρ c (Proc.devRef .tc main_arg3) = m ((c : Thread nD τ).loc main_arg3) :=
  W15_args m ρ c main_arg3 (by decide)
/-- Argument 4 is unchanged at the end. -/
theorem W15_main_arg4 (c : Dev nD) : W15 m ρ c (Proc.devRef .tc main_arg4) = m ((c : Thread nD τ).loc main_arg4) :=
  W15_args m ρ c main_arg4 (by decide)

end Cert.KernelIdeal.Whole

end
-- ==== Proof.KernelIdeal.Regs.lean ====
/- The regions of @main as segments of its run. -/
module

public import proofs.«01_k».proof.Proof.KernelIdeal.Bounds

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 8) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V8 m ρ) c
  | ⟨4, _⟩ => fun c => dat4 (V9 m ρ) c
  | ⟨5, _⟩ => fun c => dat5 (V10 m ρ) c
  | ⟨6, _⟩ => fun c => dat6 (V11 m ρ) c
  | ⟨7, _⟩ => fun c => dat7 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W15`, the generator register at some state. -/
abbrev Tₙ (c : Dev nD) : sProp 𝕄 := iprop(StableHlo.held (c : Thread nD τ) (Pipeline.ucRefs τ sig) (W15 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) (A_eq3 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Phi3 (V8 m ρ) c 0 from rfl]
    iintro ⟨Hp, -, Hr⟩
    iapply (Phi3_in (V8 m ρ) c)
    isplitl [Hp]; · iexact Hp
    iexact Hr
  hout c := by
    rw [Pipeline.ownSems0_none, show (pdats m ρ 3 c).Φ (Fin.last _) = Phi3 (V8 m ρ) c (Fin.last cfg3.N).val from rfl]
    iintro H
    ihave H' := (Phi3_out (V8 m ρ) c _) $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Phi4 (V9 m ρ) c 0 from rfl]
    iintro ⟨Hp, -, Hr⟩
    iapply (Phi4_in (V9 m ρ) c)
    isplitl [Hp]; · iexact Hp
    iexact Hr
  hout c := by
    rw [Pipeline.ownSems0_none, show (pdats m ρ 4 c).Φ (Fin.last _) = Phi4 (V9 m ρ) c (Fin.last cfg4.N).val from rfl]
    iintro H
    ihave H' := (Phi4_out (V9 m ρ) c _) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) (A_eq5 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Phi5 (V10 m ρ) c 0 from rfl]
    iintro ⟨Hp, -, Hr⟩
    iapply (Phi5_in (V10 m ρ) c)
    isplitl [Hp]; · iexact Hp
    iexact Hr
  hout c := by
    rw [Pipeline.ownSems0_none, show (pdats m ρ 5 c).Φ (Fin.last _) = Phi5 (V10 m ρ) c (Fin.last cfg5.N).val from rfl]
    iintro H
    ihave H' := (Phi5_out (V10 m ρ) c _) $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 6 (custom_call 6) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) (A_eq6 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Phi6 (V11 m ρ) c 0 from rfl]
    iintro ⟨Hp, -, Hr⟩
    iapply (Phi6_in (V11 m ρ) c)
    isplitl [Hp]; · iexact Hp
    iexact Hr
  hout c := by
    rw [Pipeline.ownSems0_none, show (pdats m ρ 6 c).Φ (Fin.last _) = Phi6 (V11 m ρ) c (Fin.last cfg6.N).val from rfl]
    iintro H
    ihave H' := (Phi6_out (V11 m ρ) c _) $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 7 (custom_call 7) over the thread state: entered from every unscoped buffer at `W13`, left at `W14`
    (what the next segment is entered from). Its arrays split out of the unscoped buffers
    (`arrays_of_unscopedBufs`) and put back at the exit contents (`unscopedBufs_of_arrays`); the generator register into the
    class invariant `ΦA` and out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) (A_eq7 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Run.lean ====
/- The run of @main: its termination, the arguments unchanged, the counters at zero, and the result buffer at what the segments compose. -/
module

public import proofs.«01_k».proof.Proof.KernelIdeal.Regs

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 15 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .host (hseg hostOps3_1 hostOps3_1_sub hostOps3_1_fresh (W6 m ρ)),
    .host (hseg hostOps3_2 hostOps3_2_sub hostOps3_2_fresh (W7 m ρ)),
    .region (reg3 m ρ),
    .region (reg4 m ρ),
    .region (reg5 m ρ),
    .region (reg6 m ρ),
    .host (hseg hostOps7 hostOps7_sub hostOps7_fresh (W12 m ρ)),
    .region (reg7 m ρ),
    .host (hseg hostOps8 hostOps8_sub hostOps8_fresh (W14 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every weakly fair execution of @main on the TensorCores terminates, nothing
    faulting, and every final state has every unscoped buffer at the contents `W15` that the segments compose and every
    semaphore counter of the machine at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W15 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨(fun c =>
      ⟨(h.1 c _ (mem_uc main_arg0 (by decide))).trans (W15_main_arg0 m ρ c),
       (h.1 c _ (mem_uc main_arg1 (by decide))).trans (W15_main_arg1 m ρ c),
       (h.1 c _ (mem_uc main_arg2 (by decide))).trans (W15_main_arg2 m ρ c),
       (h.1 c _ (mem_uc main_arg3 (by decide))).trans (W15_main_arg3 m ρ c),
       (h.1 c _ (mem_uc main_arg4 (by decide))).trans (W15_main_arg4 m ρ c)⟩), h.2⟩) (run_all m ρ)

/-- The result: the result buffer ends at what the segments compose. -/
theorem result : θ_run defs (onTc (τ := τ) (main (F := F))) ⟨m, fun _ => 0, ρ⟩ (fun r => ∀ c : Dev nD,
      r.2.mem ((c.tc : Thread nD τ).loc main_v56) = W15 m ρ c (Proc.devRef .tc main_v56)) :=
  (θ_run defs _ _).mono (fun _ h c => h.1 c _ (mem_uc main_v56 (by decide))) (run_all m ρ)

end Cert.KernelIdeal.Whole

end
-- ==== Proof.Value.Arrays.lean ====
/- The arrays that the kernel's regions leave, at the extended reals, by name. -/
module

public import proofs.«01_k».proof.Proof.KernelIdeal.Bounds
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Whole
open Idealize.ShloMosaic Idealize.ShloMosaic.TcCoe

variable (m : (ℓ : Loc nD τ sig) → Buf (Elt Ideal) ℓ) (ρ : Dev nD → PrngReg) (c : Dev nD)

/-- One over the square root of 128, as an extended real: what the kernel's named constant stands for. -/
def cinv : EReal := (((Real.sqrt 128)⁻¹ : ℝ) : EReal)

/-- The named constant is the real number 1/√128. -/
theorem named_cinv : Named.named (F := Ideal) (φ := .f32) κ "inv_sqrt_dh" 0x3DB504F3#32 = cinv :=
  IdealRules.named_const.ideal_named_scalar κ "inv_sqrt_dh" _ _ rfl

/-- The arguments. -/
def aX : FVec Ideal S1x2048x2048 .f32 := W0 m ρ c (Proc.devRef .tc main_arg0)
/-- The query weights. -/
def aWq : FVec Ideal S2048x2048 .f32 := W0 m ρ c (Proc.devRef .tc main_arg1)
/-- The key weights. -/
def aWk : FVec Ideal S2048x2048 .f32 := W0 m ρ c (Proc.devRef .tc main_arg2)
/-- The value weights. -/
def aWv : FVec Ideal S2048x2048 .f32 := W0 m ρ c (Proc.devRef .tc main_arg3)
/-- The output weights. -/
def aWo : FVec Ideal S2048x2048 .f32 := W0 m ρ c (Proc.devRef .tc main_arg4)

/-- The activations and the two tables that region 0 reads. -/
def aXb : FVec Ideal S2048x2048 .bf16 := W1 m ρ c (Proc.devRef .tc main_v21)
/-- The cosine table. -/
def aCos : FVec Ideal S2048x128 .f32 := W1 m ρ c (Proc.devRef .tc main_v19)
/-- The sine table. -/
def aSin : FVec Ideal S2048x128 .f32 := W1 m ρ c (Proc.devRef .tc main_v20)

/-- Region 0's results: the text queries, the image keys, the scaled queries, the keys and the values. -/
def aQt : FVec Ideal S16x1480x128 .f32 := W2 m ρ c (Proc.devRef .tc main_v22_0)
/-- The rotated keys of the vision positions. -/
def aKv : FVec Ideal S16x512x128 .f32 := W2 m ρ c (Proc.devRef .tc main_v22_1)
/-- The scaled rotated queries. -/
def aQb : FVec Ideal S16x2048x128 .bf16 := W2 m ρ c (Proc.devRef .tc main_v22_2)
/-- The rotated keys. -/
def aKb : FVec Ideal S16x2048x128 .bf16 := W2 m ρ c (Proc.devRef .tc main_v22_3)
/-- The values. -/
def aVb : FVec Ideal S16x2048x128 .bf16 := W2 m ρ c (Proc.devRef .tc main_v22_4)

/-- Region 1's result, the scores. -/
def aSc : FVec Ideal S16x1479x512 .f32 := W3 m ρ c (Proc.devRef .tc main_v23)

/-- The importance of each image key, and region 2's result, whether the key is kept. -/
def aImp : FVec Ideal S1x512 .f32 := W4 m ρ c (Proc.devRef .tc main_v37)
/-- The flags of the kept vision positions. -/
def aKeep : IVec S1x512 32 := W5 m ρ c (Proc.devRef .tc main_v38)

/-- Each key's position, or a large word where the key is not kept; eight equal rows. -/
def aPos : IVec S8x2048 32 := W8 m ρ c (Proc.devRef .tc main_v49)

/-- The four blocks of rows of the attention's result (regions 3 to 6). -/
def aO0 : FVec Ideal S512x2048 .f32 := W9 m ρ c (Proc.devRef .tc main_v50)
/-- The attention of the second 512 rows. -/
def aO1 : FVec Ideal S512x2048 .f32 := W10 m ρ c (Proc.devRef .tc main_v51)
/-- The attention of the third 512 rows. -/
def aO2 : FVec Ideal S512x2048 .f32 := W11 m ρ c (Proc.devRef .tc main_v52)
/-- The attention of the last 512 rows. -/
def aO3 : FVec Ideal S512x2048 .f32 := W12 m ρ c (Proc.devRef .tc main_v53)

/-- The attention's result, region 7's result and the program's result. -/
def aO : FVec Ideal S2048x2048 .f32 := W13 m ρ c (Proc.devRef .tc main_v54)
/-- The output projection. -/
def aOut : FVec Ideal S2048x2048 .f32 := W14 m ρ c (Proc.devRef .tc main_v55)
/-- The result. -/
def aRes : FVec Ideal S1x2048x2048 .f32 := W15 m ρ c (Proc.devRef .tc main_v56)

end Cert.KernelIdeal.Value

end
-- ==== Proof.Value.Att.lean ====
/- The attention's formula and the operands that its four regions read. -/
module

public import proofs.«01_k».proof.Proof.Value.Arrays

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

/-- Attention of one row over `n` keys: scores `f`, mask `b`, values `v`; weights normalised without a shift. -/
def att {n : ℕ} (f b v : Fin n → EReal) : EReal :=
  ∑ k, Ideal.exp (f k + b k) * Ideal.div 1 (∑ k', Ideal.exp (f k' + b k')) * v k

/-- The word of minus infinity. -/
theorem ofBits_neg_inf : Ideal.ofBits FTy.f32 0xFF800000#32 = (⊥ : EReal) := by
  simp [Ideal.ofBits, Ideal.ieee]

/-- The mask's choice between zero and minus infinity, as an order of positions. -/
theorem bias_read (w : BitVec 32) (off r : ℕ) (h : off + r < 2048) :
    Scalar.select (IntOp.cmpi CmpIPredicate.sle w (IntOp.addi (BitVec.ofNat 32 off) (BitVec.ofNat 32 r))) (0 : EReal) (Ideal.ofBits FTy.f32 0xFF800000#32)
      = if w.toInt ≤ ((off + r : ℕ) : ℤ) then 0 else ⊥ := by
  rw [ofBits_neg_inf]
  have e : (IntOp.addi (BitVec.ofNat 32 off) (BitVec.ofNat 32 r)).toInt = ((off + r : ℕ) : ℤ) := by
    unfold IntOp.addi
    rw [← BitVec.ofNat_add, BitVec.toInt_eq_toNat_of_lt (by simp; omega)]
    simp only [BitVec.toNat_ofNat]
    omega
  simp only [IntOp.cmpi, BitVec.sle, e, Scalar.select]
  by_cases hw : w.toInt ≤ ((off + r : ℕ) : ℤ)
  · rw [if_pos hw, decide_eq_true hw]; exact if_pos rfl
  · rw [if_neg hw, decide_eq_false hw]; exact if_neg (by decide)

variable (m : (ℓ : Loc nD τ sig) → Buf (Elt Ideal) ℓ) (ρ : Dev nD → PrngReg) (c : Dev nD)

/-- The score of query position `s` against key position `p` in head `h`. -/
def sc (h : Fin 16) (s p : Fin 2048) : EReal := ∑ d : Fin 128, aQb m ρ c (ix3 h s d) * aKb m ρ c (ix3 h p d)

/-- The mask of key position `p` at query position `s`. -/
def bias (s p : Fin 2048) : EReal := if (aPos m ρ c (ix2 0 p)).toInt ≤ ((s.val : ℕ) : ℤ) then 0 else ⊥

/-! The operands keep their contents from where they are made to each of the four regions. -/

/-- The queries at boundary 8. -/
theorem W8_q : W8 m ρ c (Proc.devRef .tc main_v22_2) = aQb m ρ c :=
  (W8_of m ρ c main_v22_2 (by decide)).trans ((W7_of m ρ c main_v22_2 (by decide)).trans ((W6_of m ρ c main_v22_2 (by decide)).trans ((W5_of m ρ c main_v22_2 (by decide)).trans ((W4_of m ρ c main_v22_2 (by decide)).trans (W3_of m ρ c main_v22_2 (by decide))))))
/-- The queries at boundary 9. -/
theorem W9_q : W9 m ρ c (Proc.devRef .tc main_v22_2) = aQb m ρ c := (W9_of m ρ c main_v22_2 (by decide)).trans (W8_q m ρ c)
/-- The queries at boundary 10. -/
theorem W10_q : W10 m ρ c (Proc.devRef .tc main_v22_2) = aQb m ρ c := (W10_of m ρ c main_v22_2 (by decide)).trans (W9_q m ρ c)
/-- The queries at boundary 11. -/
theorem W11_q : W11 m ρ c (Proc.devRef .tc main_v22_2) = aQb m ρ c := (W11_of m ρ c main_v22_2 (by decide)).trans (W10_q m ρ c)
/-- The keys at boundary 8. -/
theorem W8_k : W8 m ρ c (Proc.devRef .tc main_v22_3) = aKb m ρ c :=
  (W8_of m ρ c main_v22_3 (by decide)).trans ((W7_of m ρ c main_v22_3 (by decide)).trans ((W6_of m ρ c main_v22_3 (by decide)).trans ((W5_of m ρ c main_v22_3 (by decide)).trans ((W4_of m ρ c main_v22_3 (by decide)).trans (W3_of m ρ c main_v22_3 (by decide))))))
/-- The keys at boundary 9. -/
theorem W9_k : W9 m ρ c (Proc.devRef .tc main_v22_3) = aKb m ρ c := (W9_of m ρ c main_v22_3 (by decide)).trans (W8_k m ρ c)
/-- The keys at boundary 10. -/
theorem W10_k : W10 m ρ c (Proc.devRef .tc main_v22_3) = aKb m ρ c := (W10_of m ρ c main_v22_3 (by decide)).trans (W9_k m ρ c)
/-- The keys at boundary 11. -/
theorem W11_k : W11 m ρ c (Proc.devRef .tc main_v22_3) = aKb m ρ c := (W11_of m ρ c main_v22_3 (by decide)).trans (W10_k m ρ c)
/-- The values at boundary 8. -/
theorem W8_v : W8 m ρ c (Proc.devRef .tc main_v22_4) = aVb m ρ c :=
  (W8_of m ρ c main_v22_4 (by decide)).trans ((W7_of m ρ c main_v22_4 (by decide)).trans ((W6_of m ρ c main_v22_4 (by decide)).trans ((W5_of m ρ c main_v22_4 (by decide)).trans ((W4_of m ρ c main_v22_4 (by decide)).trans (W3_of m ρ c main_v22_4 (by decide))))))
/-- The values at boundary 9. -/
theorem W9_v : W9 m ρ c (Proc.devRef .tc main_v22_4) = aVb m ρ c := (W9_of m ρ c main_v22_4 (by decide)).trans (W8_v m ρ c)
/-- The values at boundary 10. -/
theorem W10_v : W10 m ρ c (Proc.devRef .tc main_v22_4) = aVb m ρ c := (W10_of m ρ c main_v22_4 (by decide)).trans (W9_v m ρ c)
/-- The values at boundary 11. -/
theorem W11_v : W11 m ρ c (Proc.devRef .tc main_v22_4) = aVb m ρ c := (W11_of m ρ c main_v22_4 (by decide)).trans (W10_v m ρ c)
/-- The positions at boundary 8. -/
theorem W8_p : W8 m ρ c (Proc.devRef .tc main_v49) = aPos m ρ c := rfl
/-- The positions at boundary 9. -/
theorem W9_p : W9 m ρ c (Proc.devRef .tc main_v49) = aPos m ρ c := (W9_of m ρ c main_v49 (by decide)).trans (W8_p m ρ c)
/-- The positions at boundary 10. -/
theorem W10_p : W10 m ρ c (Proc.devRef .tc main_v49) = aPos m ρ c := (W10_of m ρ c main_v49 (by decide)).trans (W9_p m ρ c)
/-- The positions at boundary 11. -/
theorem W11_p : W11 m ρ c (Proc.devRef .tc main_v49) = aPos m ρ c := (W11_of m ρ c main_v49 (by decide)).trans (W10_p m ρ c)

end Cert.KernelIdeal.Value

end
-- ==== Proof.Value.Soft.lean ====
/- Normalised exponentials over the extended reals: with real scores on the allowed keys, the weights with and without
   the subtracted maximum are the same real weights, and a key that is not allowed adds nothing. -/
module

public import proofs.«01_k».proof.Proof.Value.Att

@[expose] public section

noncomputable section

namespace Cert.KernelIdeal.Value

open Idealize.ShloMosaic

/-- The softmax average of `v` over the keys in `A`, with real scores. -/
def soft {ι : Type} (A : Finset ι) (σ : ι → ℝ) (v : ι → EReal) : EReal :=
  ∑ k ∈ A, ((Real.exp (σ k) / ∑ k' ∈ A, Real.exp (σ k') : ℝ) : EReal) * v k

/-- The softmax over an image of a set. -/
theorem soft_map {ι κ : Type} (e : ι ↪ κ) (A : Finset ι) (σ : κ → ℝ) (v : κ → EReal) :
    soft (A.map e) σ v = soft A (fun i => σ (e i)) (fun i => v (e i)) := by
  unfold soft
  rw [Finset.sum_map, Finset.sum_map]

/-- A sum of reals, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A quotient of reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The exponential of a real. -/
theorem exp_coe (x : ℝ) : Ideal.exp (x : EReal) = ((Real.exp x : ℝ) : EReal) := rfl
/-- The exponential of minus infinity. -/
theorem exp_bot : Ideal.exp (⊥ : EReal) = 0 := rfl

section
variable {ι : Type} [Fintype ι] (σ : ι → ℝ) (p : ι → Prop) [DecidablePred p] (v : ι → EReal)

/-- The exponential of a masked score. -/
theorem exp_masked (k : ι) : Ideal.exp ((σ k : EReal) + (if p k then 0 else ⊥)) = ((if p k then Real.exp (σ k) else 0 : ℝ) : EReal) := by
  by_cases h : p k
  · simp only [if_pos h, add_zero]; rfl
  · simp only [if_neg h, EReal.add_bot]; rfl

/-- The exponential of a masked and shifted score. -/
theorem exp_masked_shift (μ : ℝ) (k : ι) :
    Ideal.exp ((σ k : EReal) + (if p k then 0 else ⊥) - (μ : EReal)) = ((if p k then Real.exp (σ k - μ) else 0 : ℝ) : EReal) := by
  by_cases h : p k
  · simp only [if_pos h, add_zero]; rw [← EReal.coe_sub]; rfl
  · simp only [if_neg h, EReal.add_bot, EReal.bot_sub]; rfl

/-- A sum of masked terms is the sum over the unmasked ones. -/
theorem sum_masked (f : ι → ℝ) : (∑ k, ((if p k then f k else 0 : ℝ) : EReal)) = ((∑ k ∈ Finset.univ.filter p, f k : ℝ) : EReal) := by
  rw [← coe_sum, Finset.sum_filter]

/-- A sum of exponentials is positive. -/
theorem sum_exp_pos (h : ∃ k, p k) (f : ι → ℝ) : 0 < ∑ k ∈ Finset.univ.filter p, Real.exp (f k) := by
  obtain ⟨k, hk⟩ := h
  exact Finset.sum_pos (fun _ _ => Real.exp_pos _) ⟨k, by simp [hk]⟩

/-- A sum of masked real weights times values is the sum over the allowed keys. -/
theorem sum_weights (w : ι → ℝ) :
    (∑ k, ((if p k then w k else 0 : ℝ) : EReal) * v k) = ∑ k ∈ Finset.univ.filter p, ((w k : ℝ) : EReal) * v k := by
  rw [Finset.sum_filter]
  refine Finset.sum_congr rfl fun k _ => ?_
  by_cases h : p k
  · simp only [if_pos h]
  · simp only [if_neg h, EReal.coe_zero, zero_mul]

/-- The weights of the reference, whatever real number is subtracted from the scores. -/
theorem shifted_eq_soft (h : ∃ k, p k) (μ : ℝ) :
    (∑ k, Ideal.div (Ideal.exp ((σ k : EReal) + (if p k then 0 else ⊥) - (μ : EReal)))
        (∑ k', Ideal.exp ((σ k' : EReal) + (if p k' then 0 else ⊥) - (μ : EReal))) * v k)
      = soft (Finset.univ.filter p) σ v := by
  have hZ := sum_exp_pos p h fun k => σ k - μ
  simp only [exp_masked_shift, sum_masked]
  have e : ∀ k, Ideal.div ((if p k then Real.exp (σ k - μ) else 0 : ℝ) : EReal)
        ((∑ k ∈ Finset.univ.filter p, Real.exp (σ k - μ) : ℝ) : EReal)
      = ((if p k then Real.exp (σ k) / ∑ k' ∈ Finset.univ.filter p, Real.exp (σ k') else 0 : ℝ) : EReal) := by
    intro k
    rw [div_coe _ _ hZ.ne']
    by_cases hk : p k
    · simp only [if_pos hk, sub_eq_add_neg, Real.exp_add, ← Finset.sum_mul]
      rw [mul_div_mul_right _ _ (Real.exp_pos _).ne']
    · simp only [if_neg hk, zero_div]
  simp only [e]
  exact sum_weights p v _

/-- The maximum of the masked scores is a real number. -/
theorem max_real (h : ∃ k, p k) :
    ∃ μ : ℝ, max (⊥ : EReal) (Finset.fold max (⊥ : EReal) (fun k => (σ k : EReal) + (if p k then 0 else ⊥)) Finset.univ) = (μ : EReal) := by
  obtain ⟨k, hk⟩ := h
  have e : Finset.fold max (⊥ : EReal) (fun k => (σ k : EReal) + (if p k then 0 else ⊥)) Finset.univ
      = Finset.univ.sup fun k => (σ k : EReal) + (if p k then 0 else ⊥) := rfl
  rw [e, max_eq_right bot_le]
  generalize hs : (Finset.univ.sup fun k => (σ k : EReal) + (if p k then 0 else ⊥)) = s
  have h1 : (σ k : EReal) ≤ s := by
    rw [← hs]
    refine le_trans ?_ (Finset.le_sup (f := fun k => (σ k : EReal) + (if p k then 0 else ⊥)) (Finset.mem_univ k))
    simp only [if_pos hk, add_zero]; exact le_rfl
  have h2 : s < ⊤ := by
    rw [← hs, Finset.sup_lt_iff (by simp)]
    intro j _
    by_cases hj : p j
    · simp only [if_pos hj, add_zero]; exact EReal.coe_lt_top _
    · simp only [if_neg hj, EReal.add_bot]; simp
  induction s using EReal.rec with
  | bot => exact absurd h1 (by simp)
  | coe x => exact ⟨x, rfl⟩
  | top => exact absurd h2 (lt_irrefl _)

end

/-- The weights of the kernel, which subtracts nothing. -/
theorem att_eq_soft {n : ℕ} (σ : Fin n → ℝ) (p : Fin n → Prop) [DecidablePred p] (v : Fin n → EReal) (h : ∃ k, p k) :
    att (fun k => (σ k : EReal)) (fun k => if p k then 0 else ⊥) v = soft (Finset.univ.filter p) σ v := by
  have hZ := sum_exp_pos p h σ
  unfold att
  simp only [exp_masked, sum_masked]
  have e : ∀ k, ((if p k then Real.exp (σ k) else 0 : ℝ) : EReal) * Ideal.div 1 ((∑ k ∈ Finset.univ.filter p, Real.exp (σ k) : ℝ) : EReal)
      = ((if p k then Real.exp (σ k) / ∑ k' ∈ Finset.univ.filter p, Real.exp (σ k') else 0 : ℝ) : EReal) := by
    intro k
    rw [← EReal.coe_one, div_coe _ _ hZ.ne', ← EReal.coe_mul]
    by_cases hk : p k
    · simp only [if_pos hk]; rw [mul_one_div]
    · simp only [if_neg hk, zero_mul]
  simp only [e]
  exact sum_weights p v _

end Cert.KernelIdeal.Value

end
-- ==== Proof.Value.Tables.lean ====
/- What the host computes before region 0: the activations and the tables of cosines and sines. -/
module

public import proofs.«01_k».proof.Proof.Value.Arrays
public import proofs.«01_k».proof.Proof.Value.Soft
public import proofs.«01_k».proof.Proof.Gen.ReferenceIdeal.Run
public import Idealize.ShloMosaic.Lib.Tactic.CleanTypes

@[expose] public section

set_option maxRecDepth 16384

noncomputable section

namespace Cert.KernelIdeal.Value

open Cert.KernelIdeal Cert.KernelIdeal.Gen Cert.KernelIdeal.Whole
open Idealize.ShloMosaic Idealize.ShloMosaic.TcCoe

variable (m : (ℓ : Loc nD τ sig) → Buf (Elt Ideal) ℓ) (ρ : Dev nD → PrngReg) (c : Dev nD)

/-- The activations without their leading axis. -/
theorem aXb_apply (s d : Fin 2048) : aXb m ρ c (ix2 s d) = aX m ρ c (ix3 0 s d) := by
  have e : aXb m ρ c = truncf .bf16 (shapeCast S2048x2048 (aX m ρ c) shapeCasts_S1x2048x2048_S2048x2048) bitsLt_bf16_f32 := by
    unfold aXb aX W1 hostOps0
    after_results_simp
    try rfl
  rw [e]
  pointwise

/-- The two programs make the same cosine table. -/
theorem aCos_eq (V : Valuation Cert.ReferenceIdeal.τ Cert.ReferenceIdeal.sig (Elt Ideal)) : aCos m ρ c = Cert.ReferenceIdeal.Value.res_main_v27 V := by
  unfold aCos W1 hostOps0
  after_results_simp
  rfl
/-- The two programs make the same sine table. -/
theorem aSin_eq (V : Valuation Cert.ReferenceIdeal.τ Cert.ReferenceIdeal.sig (Elt Ideal)) : aSin m ρ c = Cert.ReferenceIdeal.Value.res_main_v28 V := by
  unfold aSin W1 hostOps0
  after_results_simp
  rfl

/-- Ten thousand, two and one hundred and twenty-eight are real. -/
theorem ofBits_base : Ideal.ofBits FTy.f32 1176256512#32 = ((10000 : ℝ) : EReal) := by
  simp [Ideal.ofBits, Ideal.ieee, -EReal.coe_mul]; norm_num
/-- The word of 2. -/
theorem ofBits_two : Ideal.ofBits FTy.f32 1073741824#32 = ((2 : ℝ) : EReal) := by
  simp [Ideal.ofBits, Ideal.ieee, -EReal.coe_mul]; norm_num
/-- The word of 128. -/
theorem ofBits_head : Ideal.ofBits FTy.f32 1124073472#32 = ((128 : ℝ) : EReal) := by
  simp [Ideal.ofBits, Ideal.ieee, -EReal.coe_mul]; norm_num

variable (V : Valuation Cert.ReferenceIdeal.τ Cert.ReferenceIdeal.sig (Elt Ideal))

/-- The angles are real numbers. -/
theorem angle_real (s : Fin 2048) (l : Fin 64) :
    ∃ r : ℝ, (Cert.ReferenceIdeal.Value.res_main_v25 V : FVec Ideal S2048x64 .f32) (ix2 s l) = (r : EReal) := by
  unfold Cert.ReferenceIdeal.Value.res_main_v25
  clean_types
  pointwise
  rw [ofBits_base, ofBits_two, ofBits_head]
  show ∃ r : ℝ, ((((BitVec.ofNat 32 ↑s).toInt : ℝ) : EReal) * Ideal.div 1 (Ideal.pow ((10000 : ℝ) : EReal)
      (Ideal.div (((2 : ℝ) : EReal) * (((BitVec.ofNat 32 ↑l).toInt : ℝ) : EReal)) ((128 : ℝ) : EReal)))) = (r : EReal)
  rw [← EReal.coe_mul, div_coe _ _ (by norm_num : (128 : ℝ) ≠ 0)]
  show ∃ r : ℝ, ((((BitVec.ofNat 32 ↑s).toInt : ℝ) : EReal) * Ideal.div ((1 : ℝ) : EReal)
      ((Real.rpow 10000 _ : ℝ) : EReal)) = (r : EReal)
  rw [div_coe _ _ (ne_of_gt (show 0 < Real.rpow 10000 _ from Real.rpow_pos_of_pos (by norm_num) _)), ← EReal.coe_mul]
  exact ⟨_, rfl⟩

/-- The doubled angles are real numbers. -/
theorem emb_real (s : Fin 2048) (l : Fin 128) :
    ∃ r : ℝ, (Cert.ReferenceIdeal.Value.res_main_v26 V : FVec Ideal S2048x128 .f32) (ix2 s l) = (r : EReal) := by
  unfold Cert.ReferenceIdeal.Value.res_main_v26
  clean_types
  pointwise
  split
  · exact angle_real V _ _
  · exact angle_real V _ _

include V in
/-- The table of cosines is real. -/
theorem aCos_real (s : Fin 2048) (l : Fin 128) : ∃ r : ℝ, aCos m ρ c (ix2 s l) = (r : EReal) := by
  obtain ⟨r, hr⟩ := emb_real V s l
  refine ⟨Real.cos r, ?_⟩
  rw [aCos_eq m ρ c V]
  show Ideal.cos ((Cert.ReferenceIdeal.Value.res_main_v26 V : FVec Ideal S2048x128 .f32) (ix2 s l)) = _
  rw [hr]; rfl

include V in
/-- The table of sines is real. -/
theorem aSin_real (s : Fin 2048) (l : Fin 128) : ∃ r : ℝ, aSin m ρ c (ix2 s l) = (r : EReal) := by
  obtain ⟨r, hr⟩ := emb_real V s l
  refine ⟨Real.sin r, ?_⟩
  rw [aSin_eq m ρ c V]
  show Ideal.sin ((Cert.ReferenceIdeal.Value.res_main_v26 V : FVec Ideal S2048x128 .f32) (ix2 s l)) = _
  rw [hr]; rfl

end Cert.KernelIdeal.Value

end
-- ==== Proof.Value.Reg0.lean ====
/- What region 0 leaves: the roped queries and keys and the values, read at an index. -/
module

public import proofs.«01_k».proof.Proof.Value.Arrays

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

variable (m : (ℓ : Loc nD τ sig) → Buf (Elt Ideal) ℓ) (ρ : Dev nD → PrngReg)

/-- A projection of the activations by a weight, at row `s` and column `j`. -/
def proj (c : Dev nD) (w : FVec Ideal S2048x2048 .f32) (s j : Fin 2048) : EReal :=
  ∑ d : Fin 2048, aXb m ρ c (ix2 s d) * w (ix2 d j)

/-- The column of head `h`, lane `l`. -/
def col (h : Fin 16) (l : Fin 128) : Fin 2048 := ⟨h.val * 128 + l.val, by omega⟩

/-- The lane half a head away. -/
def half (l : Fin 128) : Fin 128 := ⟨(l.val + 128 - 64) % 128, by omega⟩

/-- The table of sines with its first half negated. -/
def sinn (f : Fin 2048 → Fin 128 → EReal) (s : Fin 2048) (l : Fin 128) : EReal := if l.val < 64 then 0 - f s l else f s l

/-- A rotated projection of head `h` at position `s`, lane `l`. -/
def rope (c : Dev nD) (w : FVec Ideal S2048x2048 .f32) (h : Fin 16) (s : Fin 2048) (l : Fin 128) : EReal :=
  proj m ρ c w s (col h l) * aCos m ρ c (ix2 s l)
    + proj m ρ c w s (col h (half l)) * sinn (fun s l => aSin m ρ c (ix2 s l)) s l

/-- The same of a block of two heads, over the block's values; `g` is the head within the block. -/
def projB (x : Vec Ideal S2048x2048 .bf16) (w : Vec Ideal S2048x256 .f32) (g : Fin 2) (s : Fin 2048) (l : Fin 128) : EReal :=
  ∑ d : Fin 2048, x (ix2 s d) * w (ix2 d ⟨g.val * 128 + l.val, by omega⟩)

/-- The rotated projection of one step's block of columns. -/
def ropeB (x : Vec Ideal S2048x2048 .bf16) (w : Vec Ideal S2048x256 .f32) (co si : Vec Ideal S2048x128 .f32)
    (g : Fin 2) (s : Fin 2048) (l : Fin 128) : EReal :=
  projB x w g s l * co (ix2 s l) + projB x w g s (half l) * sinn (fun s l => si (ix2 s l)) s l

variable (x : Vec Ideal S2048x2048 .bf16) (w : Vec Ideal S2048x256 .f32) (co si : Vec Ideal S2048x128 .f32) (l : Fin 128)

/-- The selected sine, in the form in which the payloads read it. -/
theorem sinn_read (s : Fin 2048) :
    (if h : l.val < 64 then 0 - si (ix2 s l) else si (ix2 s ⟨64 + (l.val - 64), by omega⟩)) = sinn (fun s l => si (ix2 s l)) s l := by
  unfold sinn
  split
  · rfl
  · exact congrArg (fun k => si (ix2 s k)) (Fin.ext (by simp; omega))

/-- An entry of a value that the first kernel computes. -/
theorem k0_pay9_apply (s : Fin 2048) : k0_pay9 x co si w (ix2 s l) = ropeB x w co si 0 s l := by
  unfold ropeB
  rw [← sinn_read]
  pointwise [k0_pay9, k0_pay8, k0_pay7, k0_pay6, k0_pay5, projB, half]

/-- An entry of a value that the first kernel computes. -/
theorem k0_pay12_apply (s : Fin 2048) : k0_pay12 x co si w (ix2 s l) = ropeB x w co si 1 s l := by
  unfold ropeB
  rw [← sinn_read]
  pointwise [k0_pay12, k0_pay8, k0_pay7, k0_pay6, k0_pay5, projB, half]

/-- An entry of a value that the first kernel computes. -/
theorem k0_pay17_apply (s : Fin 2048) : k0_pay17 (k0_pay5 x) (k0_pay6 co) (k0_pay7 si) w (ix2 s l) = ropeB x w co si 0 s l := by
  unfold ropeB
  rw [← sinn_read]
  pointwise [k0_pay17, k0_pay16, k0_pay7, k0_pay6, k0_pay5, projB, half]

/-- An entry of a value that the first kernel computes. -/
theorem k0_pay20_apply (s : Fin 2048) : k0_pay20 (k0_pay5 x) (k0_pay6 co) (k0_pay7 si) w (ix2 s l) = ropeB x w co si 1 s l := by
  unfold ropeB
  rw [← sinn_read]
  pointwise [k0_pay20, k0_pay16, k0_pay7, k0_pay6, k0_pay5, projB, half]

/-- An entry of a value that the first kernel computes. -/
theorem k0_pay10_apply (p : Fin 1480) : k0_pay10 x co si w (ix3 0 p l) = ropeB x w co si 0 ⟨513 + p.val, by omega⟩ l := by
  rw [← k0_pay9_apply]; pointwise [k0_pay10]

/-- An entry of a value that the first kernel computes. -/
theorem k0_pay14_apply (p : Fin 1480) : k0_pay14 (k0_pay13 x co si w) (ix3 0 p l) = ropeB x w co si 1 ⟨513 + p.val, by omega⟩ l := by
  rw [← k0_pay12_apply]; pointwise [k0_pay14, k0_pay13]

/-- An entry of a value that the first kernel computes. -/
theorem k0_pay11_apply (s : Fin 2048) : k0_pay11 x co si w (ix3 0 s l) = ropeB x w co si 0 s l * cinv := by
  rw [← k0_pay9_apply]; pointwise [k0_pay11, named_cinv]

/-- An entry of a value that the first kernel computes. -/
theorem k0_pay15_apply (s : Fin 2048) : k0_pay15 (k0_pay12 x co si w) (ix3 0 s l) = ropeB x w co si 1 s l * cinv := by
  rw [← k0_pay12_apply]; pointwise [k0_pay15, named_cinv]

/-- An entry of a value that the first kernel computes. -/
theorem k0_pay18_apply (p : Fin 512) :
    k0_pay18 (k0_pay5 x) (k0_pay6 co) (k0_pay7 si) w (ix3 0 p l) = ropeB x w co si 0 ⟨1 + p.val, by omega⟩ l := by
  rw [← k0_pay17_apply]; pointwise [k0_pay18]

/-- An entry of a value that the first kernel computes. -/
theorem k0_pay21_apply (p : Fin 512) :
    k0_pay21 (k0_pay5 x) (k0_pay6 co) (k0_pay7 si) w (ix3 0 p l) = ropeB x w co si 1 ⟨1 + p.val, by omega⟩ l := by
  rw [← k0_pay20_apply]; pointwise [k0_pay21]

/-- An entry of a value that the first kernel computes. -/
theorem k0_pay19_apply (s : Fin 2048) :
    k0_pay19 (k0_pay5 x) (k0_pay6 co) (k0_pay7 si) w (ix3 0 s l) = ropeB x w co si 0 s l := by
  rw [← k0_pay17_apply]; pointwise [k0_pay19]

/-- An entry of a value that the first kernel computes. -/
theorem k0_pay1_apply (s : Fin 2048) :
    k0_pay1 (k0_pay22 (k0_pay5 x) (k0_pay6 co) (k0_pay7 si) w) (ix3 0 s l) = ropeB x w co si 1 s l := by
  rw [← k0_pay20_apply]; pointwise [k0_pay1, k0_pay22]

/-- An entry of a value that the first kernel computes. -/
theorem k0_pay3_apply (s : Fin 2048) : k0_pay3 (k0_pay5 x) w (ix3 0 s l) = projB x w 0 s l := by
  pointwise [k0_pay3, k0_pay2, k0_pay5, projB]

/-- An entry of a value that the first kernel computes. -/
theorem k0_pay4_apply (s : Fin 2048) : k0_pay4 (k0_pay5 x) w (ix3 0 s l) = projB x w 1 s l := by
  pointwise [k0_pay4, k0_pay2, k0_pay5, projB]

/-- The block that each step has in window 0. -/
theorem idx0_0 : ∀ t : Fin grid0.N, win0_0.index t = ![0, 0] := by decide +kernel
/-- The block that each step has in window 1. -/
theorem idx0_1 : ∀ t : Fin grid0.N, win0_1.index t = ![0, t.val] := by decide +kernel
/-- The block that each step has in window 2. -/
theorem idx0_2 : ∀ t : Fin grid0.N, win0_2.index t = ![0, t.val] := by decide +kernel
/-- The block that each step has in window 3. -/
theorem idx0_3 : ∀ t : Fin grid0.N, win0_3.index t = ![0, t.val] := by decide +kernel
/-- The block that each step has in window 4. -/
theorem idx0_4 : ∀ t : Fin grid0.N, win0_4.index t = ![0, 0] := by decide +kernel
/-- The block that each step has in window 5. -/
theorem idx0_5 : ∀ t : Fin grid0.N, win0_5.index t = ![0, 0] := by decide +kernel
/-- The block that each step has in window 6. -/
theorem idx0_6 : ∀ t : Fin grid0.N, win0_6.index t = ![t.val, 0, 0] := by decide +kernel

/-- The first region finds the query weights as they were. -/
theorem W1_arg1 (c : Dev nD) : W1 m ρ c (Proc.devRef .tc main_arg1) = aWq m ρ c :=
  (W1_args m ρ c main_arg1 (by decide)).trans (W0_args m ρ c main_arg1 (by decide)).symm
/-- The first region finds the key weights as they were. -/
theorem W1_arg2 (c : Dev nD) : W1 m ρ c (Proc.devRef .tc main_arg2) = aWk m ρ c :=
  (W1_args m ρ c main_arg2 (by decide)).trans (W0_args m ρ c main_arg2 (by decide)).symm
/-- The first region finds the value weights as they were. -/
theorem W1_arg3 (c : Dev nD) : W1 m ρ c (Proc.devRef .tc main_arg3) = aWv m ρ c :=
  (W1_args m ρ c main_arg3 (by decide)).trans (W0_args m ρ c main_arg3 (by decide)).symm

/-! The blocks that a point reads. -/

/-- Every step reads all the activations. -/
theorem iblk0_0_eq (c : Dev nD) (t : Fin cfg0.N) : (iblk0 (V1 m ρ) c 0 t : Vec Ideal S2048x2048 .bf16) = aXb m ρ c := by
  funext y
  refine congrArg (aXb m ρ c) ?_
  funext a; apply Fin.ext; fin_cases a <;> blk_simp [idx0_0] <;> simp
/-- Every step reads the whole cosine table. -/
theorem iblk0_4_eq (c : Dev nD) (t : Fin cfg0.N) : (iblk0 (V1 m ρ) c 4 t : Vec Ideal S2048x128 .f32) = aCos m ρ c := by
  funext y
  refine congrArg (aCos m ρ c) ?_
  funext a; apply Fin.ext; fin_cases a <;> blk_simp [idx0_4] <;> simp
/-- Every step reads the whole sine table. -/
theorem iblk0_5_eq (c : Dev nD) (t : Fin cfg0.N) : (iblk0 (V1 m ρ) c 5 t : Vec Ideal S2048x128 .f32) = aSin m ρ c := by
  funext y
  refine congrArg (aSin m ρ c) ?_
  funext a; apply Fin.ext; fin_cases a <;> blk_simp [idx0_5] <;> simp
/-- Step `t` reads its 256 columns of the query weights. -/
theorem iblk0_1_apply (c : Dev nD) (t : Fin cfg0.N) (d : Fin 2048) (j : Fin 256) (hj : t.val * 256 + j.val < 2048) :
    (iblk0 (V1 m ρ) c 1 t : Vec Ideal S2048x256 .f32) (ix2 d j) = aWq m ρ c (ix2 d ⟨t.val * 256 + j.val, hj⟩) := by
  rw [← W1_arg1]
  refine congrArg (W1 m ρ c (Proc.devRef .tc main_arg1)) ?_
  funext a; apply Fin.ext; fin_cases a <;> blk_simp [idx0_1] <;> simp
/-- Step `t` reads its 256 columns of the key weights. -/
theorem iblk0_2_apply (c : Dev nD) (t : Fin cfg0.N) (d : Fin 2048) (j : Fin 256) (hj : t.val * 256 + j.val < 2048) :
    (iblk0 (V1 m ρ) c 2 t : Vec Ideal S2048x256 .f32) (ix2 d j) = aWk m ρ c (ix2 d ⟨t.val * 256 + j.val, hj⟩) := by
  rw [← W1_arg2]
  refine congrArg (W1 m ρ c (Proc.devRef .tc main_arg2)) ?_
  funext a; apply Fin.ext; fin_cases a <;> blk_simp [idx0_2] <;> simp
/-- Step `t` reads its 256 columns of the value weights. -/
theorem iblk0_3_apply (c : Dev nD) (t : Fin cfg0.N) (d : Fin 2048) (j : Fin 256) (hj : t.val * 256 + j.val < 2048) :
    (iblk0 (V1 m ρ) c 3 t : Vec Ideal S2048x256 .f32) (ix2 d j) = aWv m ρ c (ix2 d ⟨t.val * 256 + j.val, hj⟩) := by
  rw [← W1_arg3]
  refine congrArg (W1 m ρ c (Proc.devRef .tc main_arg3)) ?_
  funext a; apply Fin.ext; fin_cases a <;> blk_simp [idx0_3] <;> simp

/-- The head within the program of head `g` within block `t`. -/
def hd (t : Fin cfg0.N) (g : Fin 2) : Fin 16 := ⟨t.val * 2 + g.val, by have : t.val < 8 := t.isLt; omega⟩

/-- A step's query projection is the whole one at the step's heads. -/
theorem projB_1 (c : Dev nD) (t : Fin cfg0.N) (g : Fin 2) (s : Fin 2048) (l : Fin 128) :
    projB (iblk0 (V1 m ρ) c 0 t) (iblk0 (V1 m ρ) c 1 t) g s l = proj m ρ c (aWq m ρ c) s (col (hd t g) l) := by
  have ht : t.val < 8 := t.isLt
  unfold projB proj
  refine Finset.sum_congr rfl fun d _ => ?_
  rw [iblk0_1_apply m ρ c t d _ (by simp only; omega), iblk0_0_eq]
  refine congrArg (fun j => aXb m ρ c (ix2 s d) * aWq m ρ c (ix2 d j)) (Fin.ext ?_)
  simp only [col, hd]; omega
/-- A step's key projection is the whole one at the step's heads. -/
theorem projB_2 (c : Dev nD) (t : Fin cfg0.N) (g : Fin 2) (s : Fin 2048) (l : Fin 128) :
    projB (iblk0 (V1 m ρ) c 0 t) (iblk0 (V1 m ρ) c 2 t) g s l = proj m ρ c (aWk m ρ c) s (col (hd t g) l) := by
  have ht : t.val < 8 := t.isLt
  unfold projB proj
  refine Finset.sum_congr rfl fun d _ => ?_
  rw [iblk0_2_apply m ρ c t d _ (by simp only; omega), iblk0_0_eq]
  refine congrArg (fun j => aXb m ρ c (ix2 s d) * aWk m ρ c (ix2 d j)) (Fin.ext ?_)
  simp only [col, hd]; omega
/-- A step's value projection is the whole one at the step's heads. -/
theorem projB_3 (c : Dev nD) (t : Fin cfg0.N) (g : Fin 2) (s : Fin 2048) (l : Fin 128) :
    projB (iblk0 (V1 m ρ) c 0 t) (iblk0 (V1 m ρ) c 3 t) g s l = proj m ρ c (aWv m ρ c) s (col (hd t g) l) := by
  have ht : t.val < 8 := t.isLt
  unfold projB proj
  refine Finset.sum_congr rfl fun d _ => ?_
  rw [iblk0_3_apply m ρ c t d _ (by simp only; omega), iblk0_0_eq]
  refine congrArg (fun j => aXb m ρ c (ix2 s d) * aWv m ρ c (ix2 d j)) (Fin.ext ?_)
  simp only [col, hd]; omega
/-- A step's rotated queries are the whole ones at the step's heads. -/
theorem ropeB_1 (c : Dev nD) (t : Fin cfg0.N) (g : Fin 2) (s : Fin 2048) (l : Fin 128) :
    ropeB (iblk0 (V1 m ρ) c 0 t) (iblk0 (V1 m ρ) c 1 t) (iblk0 (V1 m ρ) c 4 t) (iblk0 (V1 m ρ) c 5 t) g s l
      = rope m ρ c (aWq m ρ c) (hd t g) s l := by
  unfold ropeB rope
  rw [projB_1, projB_1, iblk0_4_eq, iblk0_5_eq]
/-- A step's rotated keys are the whole ones at the step's heads. -/
theorem ropeB_2 (c : Dev nD) (t : Fin cfg0.N) (g : Fin 2) (s : Fin 2048) (l : Fin 128) :
    ropeB (iblk0 (V1 m ρ) c 0 t) (iblk0 (V1 m ρ) c 2 t) (iblk0 (V1 m ρ) c 4 t) (iblk0 (V1 m ρ) c 5 t) g s l
      = rope m ρ c (aWk m ρ c) (hd t g) s l := by
  unfold ropeB rope
  rw [projB_2, projB_2, iblk0_4_eq, iblk0_5_eq]

/-- Where an entry of window 6's block lies in its array. -/
theorem emb0_6 (t : Fin cfg0.N) (y0 : Fin 2) (y1 : Fin 1480) (y2 : Fin 128) :
    ((cfg0.win 6).blk t).view.emb (ix3 y0 y1 y2) = ix3 (hd t y0) y1 y2 := by
  funext a; apply Fin.ext; fin_cases a <;> blk_simp [(by decide +kernel : ∀ t : Fin grid0.N, win0_6.index t = ![t.val, 0, 0])] <;> simp [hd]

/-- Region 0's result in window 6, the text queries. -/
theorem aQt_apply (c : Dev nD) (h : Fin 16) (q : Fin 1480) (l : Fin 128) :
    aQt m ρ c (ix3 h q l) = rope m ρ c (aWq m ρ c) h ⟨513 + q.val, by omega⟩ l := by
  have key : aQt m ρ c = fun i => rope m ρ c (aWq m ρ c) (i 0) ⟨513 + (i 1).val, by have : (i 1).val < 1480 := (i 1).isLt; omega⟩ (i 2) := by
    refine (W2_arr m ρ c 6).trans ?_
    refine (dat0 (V1 m ρ) c).arrAt_eq_of_covers 6 _ (by decide +kernel) fun t hf y => ?_
    idx_vars y
    rw [after0_6, emb0_6]
    blk_simp
    unfold out0_6
    canon_tiles x h
    · idx_vars x
      obtain rfl : x0 = 0 := Subsingleton.elim _ _
      obtain rfl : y0 = 1 := Fin.ext h0
      obtain rfl : y1 = x1 := Fin.ext h1
      obtain rfl : y2 = x2 := Fin.ext h2
      frame_out
      refine (k0_pay14_apply (iblk0 (V1 m ρ) c 0 t) (iblk0 (V1 m ρ) c 1 t) (iblk0 (V1 m ρ) c 4 t) (iblk0 (V1 m ρ) c 5 t) y2 y1).trans ?_
      exact (ropeB_1 m ρ c t 1 _ y2)
    · idx_vars x
      obtain rfl : x0 = 0 := Subsingleton.elim _ _
      obtain rfl : y0 = 0 := Fin.ext h0
      obtain rfl : y1 = x1 := Fin.ext h1
      obtain rfl : y2 = x2 := Fin.ext h2
      frame_out
      refine (k0_pay10_apply (iblk0 (V1 m ρ) c 0 t) (iblk0 (V1 m ρ) c 1 t) (iblk0 (V1 m ρ) c 4 t) (iblk0 (V1 m ρ) c 5 t) y2 y1).trans ?_
      exact (ropeB_1 m ρ c t 0 _ y2)
  rw [key]; rfl

/-- Where an entry of window 7's block lies in its array. -/
theorem emb0_7 (t : Fin cfg0.N) (y0 : Fin 2) (y1 : Fin 512) (y2 : Fin 128) :
    ((cfg0.win 7).blk t).view.emb (ix3 y0 y1 y2) = ix3 (hd t y0) y1 y2 := by
  funext a; apply Fin.ext; fin_cases a <;> blk_simp [(by decide +kernel : ∀ t : Fin grid0.N, win0_7.index t = ![t.val, 0, 0])] <;> simp [hd]

/-- Region 0's result in window 7, the image keys. -/
theorem aKv_apply (c : Dev nD) (h : Fin 16) (q : Fin 512) (l : Fin 128) :
    aKv m ρ c (ix3 h q l) = rope m ρ c (aWk m ρ c) h ⟨1 + q.val, by omega⟩ l := by
  have key : aKv m ρ c = fun i => rope m ρ c (aWk m ρ c) (i 0) ⟨1 + (i 1).val, by have : (i 1).val < 512 := (i 1).isLt; omega⟩ (i 2) := by
    refine (W2_arr m ρ c 7).trans ?_
    refine (dat0 (V1 m ρ) c).arrAt_eq_of_covers 7 _ (by decide +kernel) fun t hf y => ?_
    idx_vars y
    rw [after0_7, emb0_7]
    blk_simp
    unfold out0_7 k0_pay23 k0_pay24 k0_pay25
    canon_tiles x h
    · idx_vars x
      obtain rfl : x0 = 0 := Subsingleton.elim _ _
      obtain rfl : y0 = 1 := Fin.ext h0
      obtain rfl : y1 = x1 := Fin.ext h1
      obtain rfl : y2 = x2 := Fin.ext h2
      frame_out
      refine (k0_pay21_apply (iblk0 (V1 m ρ) c 0 t) (iblk0 (V1 m ρ) c 2 t) (iblk0 (V1 m ρ) c 4 t) (iblk0 (V1 m ρ) c 5 t) y2 y1).trans ?_
      exact (ropeB_2 m ρ c t 1 _ y2)
    · idx_vars x
      obtain rfl : x0 = 0 := Subsingleton.elim _ _
      obtain rfl : y0 = 0 := Fin.ext h0
      obtain rfl : y1 = x1 := Fin.ext h1
      obtain rfl : y2 = x2 := Fin.ext h2
      frame_out
      refine (k0_pay18_apply (iblk0 (V1 m ρ) c 0 t) (iblk0 (V1 m ρ) c 2 t) (iblk0 (V1 m ρ) c 4 t) (iblk0 (V1 m ρ) c 5 t) y2 y1).trans ?_
      exact (ropeB_2 m ρ c t 0 _ y2)
  rw [key]; rfl

/-- Where an entry of window 8's block lies in its array. -/
theorem emb0_8 (t : Fin cfg0.N) (y0 : Fin 2) (y1 : Fin 2048) (y2 : Fin 128) :
    ((cfg0.win 8).blk t).view.emb (ix3 y0 y1 y2) = ix3 (hd t y0) y1 y2 := by
  funext a; apply Fin.ext; fin_cases a <;> blk_simp [(by decide +kernel : ∀ t : Fin grid0.N, win0_8.index t = ![t.val, 0, 0])] <;> simp [hd]

/-- Region 0's result in window 8, the scaled queries. -/
theorem aQb_apply (c : Dev nD) (h : Fin 16) (q : Fin 2048) (l : Fin 128) :
    aQb m ρ c (ix3 h q l) = rope m ρ c (aWq m ρ c) h q l * cinv := by
  have key : aQb m ρ c = fun i => rope m ρ c (aWq m ρ c) (i 0) (i 1) (i 2) * cinv := by
    refine (W2_arr m ρ c 8).trans ?_
    refine (dat0 (V1 m ρ) c).arrAt_eq_of_covers 8 _ (by decide +kernel) fun t hf y => ?_
    idx_vars y
    rw [after0_8, emb0_8]
    blk_simp
    unfold out0_8
    canon_tiles x h
    · idx_vars x
      obtain rfl : x0 = 0 := Subsingleton.elim _ _
      obtain rfl : y0 = 1 := Fin.ext h0
      obtain rfl : y1 = x1 := Fin.ext h1
      obtain rfl : y2 = x2 := Fin.ext h2
      frame_out
      refine (k0_pay15_apply (iblk0 (V1 m ρ) c 0 t) (iblk0 (V1 m ρ) c 1 t) (iblk0 (V1 m ρ) c 4 t) (iblk0 (V1 m ρ) c 5 t) y2 y1).trans ?_
      exact congrArg (· * cinv) (ropeB_1 m ρ c t 1 _ y2)
    · idx_vars x
      obtain rfl : x0 = 0 := Subsingleton.elim _ _
      obtain rfl : y0 = 0 := Fin.ext h0
      obtain rfl : y1 = x1 := Fin.ext h1
      obtain rfl : y2 = x2 := Fin.ext h2
      frame_out
      refine (k0_pay11_apply (iblk0 (V1 m ρ) c 0 t) (iblk0 (V1 m ρ) c 1 t) (iblk0 (V1 m ρ) c 4 t) (iblk0 (V1 m ρ) c 5 t) y2 y1).trans ?_
      exact congrArg (· * cinv) (ropeB_1 m ρ c t 0 _ y2)
  rw [key]; rfl

/-- Where an entry of window 9's block lies in its array. -/
theorem emb0_9 (t : Fin cfg0.N) (y0 : Fin 2) (y1 : Fin 2048) (y2 : Fin 128) :
    ((cfg0.win 9).blk t).view.emb (ix3 y0 y1 y2) = ix3 (hd t y0) y1 y2 := by
  funext a; apply Fin.ext; fin_cases a <;> blk_simp [(by decide +kernel : ∀ t : Fin grid0.N, win0_9.index t = ![t.val, 0, 0])] <;> simp [hd]

/-- Region 0's result in window 9, the keys. -/
theorem aKb_apply (c : Dev nD) (h : Fin 16) (q : Fin 2048) (l : Fin 128) :
    aKb m ρ c (ix3 h q l) = rope m ρ c (aWk m ρ c) h q l := by
  have key : aKb m ρ c = fun i => rope m ρ c (aWk m ρ c) (i 0) (i 1) (i 2) := by
    refine (W2_arr m ρ c 9).trans ?_
    refine (dat0 (V1 m ρ) c).arrAt_eq_of_covers 9 _ (by decide +kernel) fun t hf y => ?_
    idx_vars y
    rw [after0_9, emb0_9]
    blk_simp
    unfold out0_9 k0_pay23 k0_pay24 k0_pay25
    canon_tiles x h
    · idx_vars x
      obtain rfl : x0 = 0 := Subsingleton.elim _ _
      obtain rfl : y0 = 1 := Fin.ext h0
      obtain rfl : y1 = x1 := Fin.ext h1
      obtain rfl : y2 = x2 := Fin.ext h2
      frame_out
      refine (k0_pay1_apply (iblk0 (V1 m ρ) c 0 t) (iblk0 (V1 m ρ) c 2 t) (iblk0 (V1 m ρ) c 4 t) (iblk0 (V1 m ρ) c 5 t) y2 y1).trans ?_
      exact (ropeB_2 m ρ c t 1 _ y2)
    · idx_vars x
      obtain rfl : x0 = 0 := Subsingleton.elim _ _
      obtain rfl : y0 = 0 := Fin.ext h0
      obtain rfl : y1 = x1 := Fin.ext h1
      obtain rfl : y2 = x2 := Fin.ext h2
      frame_out
      refine (k0_pay19_apply (iblk0 (V1 m ρ) c 0 t) (iblk0 (V1 m ρ) c 2 t) (iblk0 (V1 m ρ) c 4 t) (iblk0 (V1 m ρ) c 5 t) y2 y1).trans ?_
      exact (ropeB_2 m ρ c t 0 _ y2)
  rw [key]; rfl

/-- Where an entry of window 10's block lies in its array. -/
theorem emb0_10 (t : Fin cfg0.N) (y0 : Fin 2) (y1 : Fin 2048) (y2 : Fin 128) :
    ((cfg0.win 10).blk t).view.emb (ix3 y0 y1 y2) = ix3 (hd t y0) y1 y2 := by
  funext a; apply Fin.ext; fin_cases a <;> blk_simp [(by decide +kernel : ∀ t : Fin grid0.N, win0_10.index t = ![t.val, 0, 0])] <;> simp [hd]

/-- Region 0's result in window 10, the values. -/
theorem aVb_apply (c : Dev nD) (h : Fin 16) (q : Fin 2048) (l : Fin 128) :
    aVb m ρ c (ix3 h q l) = proj m ρ c (aWv m ρ c) q (col h l) := by
  have key : aVb m ρ c = fun i => proj m ρ c (aWv m ρ c) (i 1) (col (i 0) (i 2)) := by
    refine (W2_arr m ρ c 10).trans ?_
    refine (dat0 (V1 m ρ) c).arrAt_eq_of_covers 10 _ (by decide +kernel) fun t hf y => ?_
    idx_vars y
    rw [after0_10, emb0_10]
    blk_simp
    unfold out0_10 k0_pay23
    canon_tiles x h
    · idx_vars x
      obtain rfl : x0 = 0 := Subsingleton.elim _ _
      obtain rfl : y0 = 1 := Fin.ext h0
      obtain rfl : y1 = x1 := Fin.ext h1
      obtain rfl : y2 = x2 := Fin.ext h2
      frame_out
      refine (k0_pay4_apply (iblk0 (V1 m ρ) c 0 t) (iblk0 (V1 m ρ) c 3 t) y2 y1).trans ?_
      exact (projB_3 m ρ c t 1 _ y2)
    · idx_vars x
      obtain rfl : x0 = 0 := Subsingleton.elim _ _
      obtain rfl : y0 = 0 := Fin.ext h0
      obtain rfl : y1 = x1 := Fin.ext h1
      obtain rfl : y2 = x2 := Fin.ext h2
      frame_out
      refine (k0_pay3_apply (iblk0 (V1 m ρ) c 0 t) (iblk0 (V1 m ρ) c 3 t) y2 y1).trans ?_
      exact (projB_3 m ρ c t 0 _ y2)
  rw [key]; rfl

end Cert.KernelIdeal.Value

end
-- ==== Proof.Value.RefRead.lean ====
/- What the reference computes up to the importance of the visual keys, read entry by entry. -/
module

public import proofs.«01_k».proof.Proof.Value.Tables
public import proofs.«01_k».proof.Proof.Value.Reg0

@[expose] public section

set_option maxRecDepth 16384

noncomputable section

namespace Cert.ReferenceIdeal.Value

open Cert.ReferenceIdeal Cert.ReferenceIdeal.Gen
open Idealize.ShloMosaic Idealize.ShloMosaic.TcCoe

variable (V : Valuation τ sig (Elt Ideal))

/-- The reference's arguments. -/
def rX : FVec Ideal S1x2048x2048 .f32 := V (Proc.devRef .tc main_arg0)
/-- The query weights. -/
def rWq : FVec Ideal S2048x2048 .f32 := V (Proc.devRef .tc main_arg1)
/-- The key weights. -/
def rWk : FVec Ideal S2048x2048 .f32 := V (Proc.devRef .tc main_arg2)
/-- The value weights. -/
def rWv : FVec Ideal S2048x2048 .f32 := V (Proc.devRef .tc main_arg3)
/-- The output weights. -/
def rWo : FVec Ideal S2048x2048 .f32 := V (Proc.devRef .tc main_arg4)

/-- The arrays the reference computes, with their types: queries, keys and values by head; the tables of cosines and
    sines; the rotated queries and keys; the scores of the visual keys; their importance. -/
def rQ0 : FVec Ideal S1x16x2048x128 .f32 := res_main_v2 V
/-- The keys before rotation. -/
def rK0 : FVec Ideal S1x16x2048x128 .f32 := res_main_v5 V
/-- The values. -/
def rV : FVec Ideal S1x16x2048x128 .f32 :=
  transpose S1x16x2048x128 [0, 2, 1, 3] (shapeCast S1x2048x16x128 (Host.dotGeneral dot_S1x2048x2048_S2048x2048_S1x2048x2048_2_0_01_1_n_n none (rX V) (rWv V)) shapeCasts_S1x2048x2048_S1x2048x16x128) transposes_S1x2048x16x128_S1x16x2048x128_0_2_1_3
/-- The cosine table. -/
def rCos : FVec Ideal S2048x128 .f32 := res_main_v27 V
/-- The sine table. -/
def rSin : FVec Ideal S2048x128 .f32 := res_main_v28 V
/-- The rotated queries. -/
def rQ : FVec Ideal S1x16x2048x128 .f32 := res_main_v39 V
/-- The rotated keys. -/
def rK : FVec Ideal S1x16x2048x128 .f32 := res_main_v50 V
/-- The scale. -/
def rScale : FVec Ideal S_ .f32 := res_main_v52 V
/-- The importance scores. -/
def rSc : FVec Ideal S1x16x1479x512 .f32 := res_main_v57 V
/-- The importance. -/
def rImp : FVec Ideal S512 .f32 := res_main_v69 V

/-- The factor of the scores is `1 / √128`. -/
theorem rScale_eq : rScale V ix0 = (((Real.sqrt 128)⁻¹ : ℝ) : EReal) := by
  unfold rScale res_main_v52
  clean_types
  pointwise
  rw [Cert.KernelIdeal.Value.ofBits_head]
  have h : Ideal.sqrt ((128 : ℝ) : EReal) = ((Real.sqrt 128 : ℝ) : EReal) := by
    show (if (128 : ℝ) < 0 then _ else _) = _
    rw [if_neg (by norm_num)]
  rw [h]
  show Ideal.div ((1 : ℝ) : EReal) _ = _
  rw [Cert.KernelIdeal.Value.div_coe _ _ (by positivity), one_div]

/-- A query before rotation. -/
theorem rQ0_apply (h : Fin 16) (s : Fin 2048) (l : Fin 128) :
    rQ0 V (ix4 0 h s l) = ∑ d : Fin 2048, rX V (ix3 0 s d) * rWq V (ix2 d (Cert.KernelIdeal.Value.col h l)) := by
  unfold rQ0 res_main_v2
  clean_types
  pointwise
  rfl

/-- A key before rotation. -/
theorem rK0_apply (h : Fin 16) (s : Fin 2048) (l : Fin 128) :
    rK0 V (ix4 0 h s l) = ∑ d : Fin 2048, rX V (ix3 0 s d) * rWk V (ix2 d (Cert.KernelIdeal.Value.col h l)) := by
  unfold rK0 res_main_v5
  clean_types
  pointwise
  rfl

/-- A value. -/
theorem rV_apply (h : Fin 16) (s : Fin 2048) (l : Fin 128) :
    rV V (ix4 0 h s l) = ∑ d : Fin 2048, rX V (ix3 0 s d) * rWv V (ix2 d (Cert.KernelIdeal.Value.col h l)) := by
  unfold rV
  clean_types
  pointwise
  rfl

/-- The rotation's second term, in the form in which the reference writes it: the sign is on the factor and not on the sine. -/
theorem rotate_read (x : Fin 128 → EReal) (f : Fin 2048 → Fin 128 → EReal) (s : Fin 2048) (l : Fin 128) :
    (if h : l.val < 64 then - x ⟨64 + l.val, by omega⟩ else x ⟨l.val - 64, by omega⟩) * f s l
      = x (Cert.KernelIdeal.Value.half l) * Cert.KernelIdeal.Value.sinn f s l := by
  unfold Cert.KernelIdeal.Value.sinn
  split
  · rw [EReal.neg_mul, zero_sub, mul_neg]
    congr 3
    apply Fin.ext
    show 64 + l.val = (l.val + 128 - 64) % 128
    omega
  · congr 2
    apply Fin.ext
    show l.val - 64 = (l.val + 128 - 64) % 128
    omega

/-- A rotated query. -/
theorem rQ_apply (h : Fin 16) (s : Fin 2048) (l : Fin 128) :
    rQ V (ix4 0 h s l) = rQ0 V (ix4 0 h s l) * rCos V (ix2 s l)
      + rQ0 V (ix4 0 h s (Cert.KernelIdeal.Value.half l)) * Cert.KernelIdeal.Value.sinn (fun s l => rSin V (ix2 s l)) s l := by
  rw [← rotate_read (fun l => rQ0 V (ix4 0 h s l))]
  unfold rQ res_main_v39
  clean_types
  pointwise
  rfl

/-- A rotated key. -/
theorem rK_apply (h : Fin 16) (s : Fin 2048) (l : Fin 128) :
    rK V (ix4 0 h s l) = rK0 V (ix4 0 h s l) * rCos V (ix2 s l)
      + rK0 V (ix4 0 h s (Cert.KernelIdeal.Value.half l)) * Cert.KernelIdeal.Value.sinn (fun s l => rSin V (ix2 s l)) s l := by
  rw [← rotate_read (fun l => rK0 V (ix4 0 h s l))]
  unfold rK res_main_v50
  clean_types
  pointwise
  rfl

/-- A score of a visual key. -/
theorem rSc_apply (h : Fin 16) (q : Fin 1479) (v : Fin 512) :
    rSc V (ix4 0 h q v) = (∑ d : Fin 128, rQ V (ix4 0 h ⟨513 + q.val, by omega⟩ d) * rK V (ix4 0 h ⟨1 + v.val, by omega⟩ d)) * rScale V ix0 := by
  unfold rSc res_main_v57
  clean_types
  pointwise
  rfl

/-- The importance of the visual keys, of an array of scores: the sum of the softmaxes. -/
def impOf (x : FVec Ideal S1x16x1479x512 .f32) : FVec Ideal S512 .f32 :=
  let e : FVec Ideal S1x16x1479x512 .f32 := Host.exp (subf x (broadcastInDim S1x16x1479x512 ![0, 1, 2, 3] bcast_S1x16x1479x1_S1x16x1479x512_0_1_2_3
    (broadcastInDim S1x16x1479x1 ![0, 1, 2] bcast_S1x16x1479_S1x16x1479x1_0_1_2
      (maximumf (broadcastInDim S1x16x1479 ![] bcast_S_S1x16x1479 (constant S_ .f32 0xFF800000#32))
        (Host.reduce FloatOps.maximumf x (constant S_ .f32 0xFF800000#32) reducesTo_S1x16x1479x512_S1x16x1479_d3 h_S_)))))
  Host.reduceAdd (Host.divf e (broadcastInDim S1x16x1479x512 ![0, 1, 2, 3] bcast_S1x16x1479x1_S1x16x1479x512_0_1_2_3
    (broadcastInDim S1x16x1479x1 ![0, 1, 2] bcast_S1x16x1479_S1x16x1479x1_0_1_2
      (Host.reduceAdd e (constant S_ .f32 0x00000000#32) reducesTo_S1x16x1479x512_S1x16x1479_d3 h_S_))))
    (constant S_ .f32 0x00000000#32) reducesTo_S1x16x1479x512_S512_d0_1_2 h_S_

/-- The importance is computed from the scores. -/
theorem rImp_eq : rImp V = impOf (rSc V) := rfl

end Cert.ReferenceIdeal.Value

end
-- ==== Proof.Value.RefTake.lean ====
/- The rows that the reference takes of its keys and values, and its attention, read entry by entry. -/
module

public import proofs.«01_k».proof.Proof.Value.RefRead

@[expose] public section

set_option maxRecDepth 16384

noncomputable section

namespace Cert.ReferenceIdeal.Value

open Cert.ReferenceIdeal Cert.ReferenceIdeal.Gen
open Idealize.ShloMosaic Idealize.ShloMosaic.TcCoe

/-- The rows `i` of an array by head, a row out of range replaced. -/
def take (i : IVec S1792x1 32) (x : FVec Ideal S1x16x2048x128 .f32) : FVec Ideal S1x16x1792x128 .f32 :=
  select (broadcastInDim S1x16x1792x128 ![2] bcast_S1792_S1x16x1792x128_2 (Host.reduce IntOp.andi (andi (cmpi .sge i (broadcastInDim S1792x1 ![] bcast_S_S1792x1 (constantI S_ 32 0#32))) (cmpi .sle i (broadcastInDim S1792x1 ![0, 1] bcast_S1x1_S1792x1_0_1 (broadcastInDim S1x1 ![1] bcast_S1_S1x1_1 (constantI S1 32 2047#32))))) (constantI S_ 1 1#1) reducesTo_S1792x1_S1792_d1 h_S_))
    (Host.gather gather_S1x16x2048x128_S1792x1_S1x16x1792x128_013_2_n_n_2_1_1161128 x i)
    (broadcastInDim S1x16x1792x128 ![] bcast_S_S1x16x1792x128 (constant S_ .f32 0x7FC00000#32))

/-- The gather reads the row that the index names. -/
theorem gather_read (i : IVec S1792x1 32) (x : FVec Ideal S1x16x2048x128 .f32) (h : Fin 16) (k : Fin 1792) (l : Fin 128) (p : Fin 2048)
    (hp : i (ix2 k 0) = BitVec.ofNat 32 p.val) :
    Host.gather gather_S1x16x2048x128_S1792x1_S1x16x1792x128_013_2_n_n_2_1_1161128 x i (ix4 0 h k l) = x (ix4 0 h p l) := by
  unfold Host.gather
  refine congrArg x (funext fun a => Fin.ext ?_)
  have hs : gather_S1x16x2048x128_S1792x1_S1x16x1792x128_013_2_n_n_2_1_1161128.siIdx (ix4 0 h k l) ⟨0, by decide⟩ = ix2 k 0 := by
    funext b
    match b with
    | ⟨0, _⟩ => rfl
    | ⟨1, _⟩ => rfl
  have hn : (BitVec.ofNat 32 p.val).toInt.toNat = p.val := by
    have := p.isLt
    rw [BitVec.toInt_eq_toNat_of_lt (by rw [BitVec.toNat_ofNat]; omega), BitVec.toNat_ofNat]
    omega
  match a with
  | ⟨0, _⟩ => rfl
  | ⟨1, _⟩ => exact Nat.zero_add _
  | ⟨2, _⟩ =>
    show min (i (gather_S1x16x2048x128_S1792x1_S1x16x1792x128_013_2_n_n_2_1_1161128.siIdx (ix4 0 h k l) ⟨0, by decide⟩)).toInt.toNat (2048 - 1) + 0 + 0 = p.val
    rw [hs, hp, hn]
    have := p.isLt
    omega
  | ⟨3, _⟩ => exact Nat.zero_add _

/-- A row in range is read as it is. -/
theorem take_read (i : IVec S1792x1 32) (x : FVec Ideal S1x16x2048x128 .f32) (h : Fin 16) (k : Fin 1792) (l : Fin 128) (p : Fin 2048)
    (hp : i (ix2 k 0) = BitVec.ofNat 32 p.val) : take i x (ix4 0 h k l) = x (ix4 0 h p l) := by
  unfold take
  pointwise
  rw [gather_read i x h k l p hp, show (Finset.univ : Finset (Fin 1)) = {0} from rfl, Finset.fold_singleton, hp]
  have hl := p.isLt
  have hi : (BitVec.ofNat 32 p.val).toInt = p.val := by
    rw [BitVec.toInt_eq_toNat_of_lt (by rw [BitVec.toNat_ofNat]; omega), BitVec.toNat_ofNat]
    omega
  have h1 : IntOp.cmpi CmpIPredicate.sge (BitVec.ofNat 32 p.val) 0#32 = 1#1 := by
    simp [IntOp.cmpi, BitVec.sle, hi]
  have h2 : IntOp.cmpi CmpIPredicate.sle (BitVec.ofNat 32 p.val) 2047#32 = 1#1 := by
    have h : ((p.val : ℤ) ≤ 2047) := by omega
    have e : (2047#32).toInt = 2047 := by decide
    simp only [IntOp.cmpi, BitVec.sle, hi, e, h, decide_true]; rfl
  rw [h1, h2]
  rfl

end Cert.ReferenceIdeal.Value

end
-- ==== Proof.Value.RefAtt.lean ====
/- The attention of the reference, read entry by entry. -/
module

public import proofs.«01_k».proof.Proof.Value.RefTake

@[expose] public section

set_option maxRecDepth 16384

noncomputable section

namespace Cert.ReferenceIdeal.Value

open Cert.ReferenceIdeal Cert.ReferenceIdeal.Gen
open Idealize.ShloMosaic Idealize.ShloMosaic.TcCoe

variable (V : Valuation τ sig (Elt Ideal))

/-- The reference's table of positions and its two uses as indices, its taken keys and values, its scores with the mask, its
    exponentials, its attention by head, and its result. -/
def rPos : IVec S1792 32 := res_main_v77 V
/-- The indices of the gathered keys. -/
def rI1 : IVec S1792x1 32 := res_main_call1_v5 V
/-- The indices of the gathered values. -/
def rI2 : IVec S1792x1 32 := res_main_call2_v5 V
/-- The gathered keys. -/
def rKG : FVec Ideal S1x16x1792x128 .f32 := take (rI1 V) (rK V)
/-- The gathered values. -/
def rVG : FVec Ideal S1x16x1792x128 .f32 := take (rI2 V) (rV V)
/-- The masked scores. -/
def rS : FVec Ideal S1x16x2048x1792 .f32 := res_main_v93 V
/-- Their exponentials, the maximum subtracted. -/
def rE : FVec Ideal S1x16x2048x1792 .f32 := res_main_v100 V
/-- The attention. -/
def rA : FVec Ideal S1x16x2048x128 .f32 :=
  Host.dotGeneral dot_S1x16x2048x1792_S1x16x1792x128_S1x16x2048x128_3_2_2_3_01_01 none (Host.divf (rE V) (broadcastInDim S1x16x2048x1792 ![0, 1, 2, 3] bcast_S1x16x2048x1_S1x16x2048x1792_0_1_2_3 (broadcastInDim S1x16x2048x1 ![0, 1, 2] bcast_S1x16x2048_S1x16x2048x1_0_1_2 (Host.reduceAdd (rE V) (constant S_ .f32 0x00000000#32) reducesTo_S1x16x2048x1792_S1x16x2048_d3 h_S_)))) (rVG V)
/-- The result. -/
def rOut : FVec Ideal S1x2048x2048 .f32 :=
  Host.dotGeneral dot_S1x2048x2048_S2048x2048_S1x2048x2048_2_0_01_1_n_n none (shapeCast S1x2048x2048 (transpose S1x2048x16x128 [0, 2, 1, 3] (rA V) transposes_S1x16x2048x128_S1x2048x16x128_0_2_1_3) shapeCasts_S1x2048x16x128_S1x2048x2048) (rWo V)

/-- A position is not negative, so it is not moved. -/
theorem index_read (b : BitVec 32) (p : Fin 2048) (hb : b = BitVec.ofNat 32 p.val) :
    Scalar.select (IntOp.cmpi CmpIPredicate.slt b 0#32) (IntOp.addi b 2048#32) b = BitVec.ofNat 32 p.val := by
  subst hb
  have hl := p.isLt
  have hi : (BitVec.ofNat 32 p.val).toInt = p.val := by
    rw [BitVec.toInt_eq_toNat_of_lt (by rw [BitVec.toNat_ofNat]; omega), BitVec.toNat_ofNat]
    omega
  have h1 : IntOp.cmpi CmpIPredicate.slt (BitVec.ofNat 32 p.val) 0#32 = 0#1 := by
    have h : ¬ ((p.val : ℤ) < 0) := by omega
    have e : (0#32).toInt = 0 := by decide
    simp only [IntOp.cmpi, BitVec.slt, hi, e, h, decide_false]; rfl
  rw [h1]
  rfl

/-- An index is the position of its table, that position not being negative. -/
theorem rI1_apply (k : Fin 1792) (p : Fin 2048) (hp : rPos V (ix1 k) = BitVec.ofNat 32 p.val) : rI1 V (ix2 k 0) = BitVec.ofNat 32 p.val := by
  unfold rI1 res_main_call1_v5
  clean_types
  pointwise
  exact index_read _ p hp

/-- The same of the gathered values' indices. -/
theorem rI2_apply (k : Fin 1792) (p : Fin 2048) (hp : rPos V (ix1 k) = BitVec.ofNat 32 p.val) : rI2 V (ix2 k 0) = BitVec.ofNat 32 p.val := by
  unfold rI2 res_main_call2_v5
  clean_types
  pointwise
  exact index_read _ p hp

/-- A score with the mask. -/
theorem rS_apply (h : Fin 16) (s : Fin 2048) (k : Fin 1792) : rS V (ix4 0 h s k) =
    (∑ x, rQ V (ix4 0 h s x) * rKG V (ix4 0 h k x)) * rScale V ix0 +
      Scalar.select (IntOp.cmpi CmpIPredicate.sle (rPos V (ix1 k)) (BitVec.ofNat 32 s.val)) 0 (Ideal.ofBits FTy.f32 4286578688#32) := by
  have e : rS V = addf (mulf (Host.dotGeneral dot_S1x16x2048x128_S1x16x1792x128_S1x16x2048x1792_3_3_2_2_01_01 none (rQ V) (rKG V)) (broadcastInDim S1x16x2048x1792 ![] bcast_S_S1x16x2048x1792 (rScale V))) (broadcastInDim S1x16x2048x1792 ![0, 1, 2, 3] bcast_S1x1x2048x1792_S1x16x2048x1792_0_1_2_3 (broadcastInDim S1x1x2048x1792 ![2, 3] bcast_S2048x1792_S1x1x2048x1792_2_3 (select (cmpi .sle (broadcastInDim S2048x1792 ![0, 1] bcast_S1x1792_S2048x1792_0_1 (broadcastInDim S1x1792 ![1] bcast_S1792_S1x1792_1 (rPos V))) (broadcastInDim S2048x1792 ![0, 1] bcast_S2048x1_S2048x1792_0_1 (broadcastInDim S2048x1 ![0] bcast_S2048_S2048x1_0 (iotaInDim S2048 32 0)))) (broadcastInDim S2048x1792 ![] bcast_S_S2048x1792 (constant S_ .f32 0x00000000#32)) (broadcastInDim S2048x1792 ![] bcast_S_S2048x1792 (constant S_ .f32 0xFF800000#32))))) := rfl
  rw [e]
  pointwise

/-- The row maxima of an array of scores, from −∞. -/
def maxOf (y : FVec Ideal S1x16x2048x1792 .f32) : FVec Ideal S1x16x2048 .f32 :=
  Host.reduce FloatOps.maximumf y (constant S_ .f32 0xFF800000#32) reducesTo_S1x16x2048x1792_S1x16x2048_d3 h_S_

/-- A row maximum. -/
theorem maxOf_apply (y : FVec Ideal S1x16x2048x1792 .f32) (h : Fin 16) (s : Fin 2048) : maxOf y (ix3 0 h s) =
    (Finset.univ : Finset (Fin 1792)).fold (FloatOps.maximumf : Ideal .f32 → Ideal .f32 → Ideal .f32) (Ideal.ofBits FTy.f32 4286578688#32) (fun x => y (ix4 0 h s x)) := by
  unfold maxOf
  have hr : S1x16x2048x1792.Reduces [3] S1x16x2048 := by decide
  rw [Host.reduce_eq_fold_single FloatOps.maximumf y _ reducesTo_S1x16x2048x1792_S1x16x2048_d3 hr h_S_]
  have e : (y ∘ hr.lift (ix3 0 h s)) = fun x => y (ix4 0 h s x) := by
    funext x
    refine congrArg y (funext fun b => ?_)
    match b with
    | ⟨0, _⟩ => rfl
    | ⟨1, _⟩ => rfl
    | ⟨2, _⟩ => rfl
    | ⟨3, _⟩ => rfl
  rw [e]
  rfl

/-- The exponentials of an array of scores, with the row maximum subtracted. -/
def expOf (y : FVec Ideal S1x16x2048x1792 .f32) (w : FVec Ideal S1x16x2048 .f32) : FVec Ideal S1x16x2048x1792 .f32 :=
  Host.exp (subf y (broadcastInDim S1x16x2048x1792 ![0, 1, 2, 3] bcast_S1x16x2048x1_S1x16x2048x1792_0_1_2_3 (broadcastInDim S1x16x2048x1 ![0, 1, 2] bcast_S1x16x2048_S1x16x2048x1_0_1_2 (maximumf (broadcastInDim S1x16x2048 ![] bcast_S_S1x16x2048 (constant S_ .f32 0xFF800000#32)) w))))

/-- An entry of the shifted exponentials. -/
theorem expOf_apply (y : FVec Ideal S1x16x2048x1792 .f32) (w : FVec Ideal S1x16x2048 .f32) (h : Fin 16) (s : Fin 2048) (k : Fin 1792) : expOf y w (ix4 0 h s k) =
    Ideal.exp (y (ix4 0 h s k) - max (Ideal.ofBits FTy.f32 4286578688#32) (w (ix3 0 h s))) := by
  unfold expOf
  pointwise

/-- The exponentials are those of the masked scores. -/
theorem rE_eq : rE V = expOf (rS V) (maxOf (rS V)) := rfl

/-- The attention of a head: the softmax of the scores by the values. -/
theorem rA_apply (h : Fin 16) (s : Fin 2048) (l : Fin 128) : rA V (ix4 0 h s l) =
    ∑ x, Ideal.div (rE V (ix4 0 h s x)) (∑ x, rE V (ix4 0 h s x)) * rVG V (ix4 0 h x l) := by
  unfold rA
  pointwise

/-- The result: the heads side by side, projected. -/
theorem rOut_apply (s n : Fin 2048) : rOut V (ix3 0 s n) =
    ∑ x : Fin 2048, rA V (ix4 0 ⟨x.val / 128, by omega⟩ s ⟨x.val % 128, by omega⟩) * rWo V (ix2 x n) := by
  unfold rOut
  pointwise

end Cert.ReferenceIdeal.Value

end
-- ==== Proof.Value.Importance.lean ====
/- The importance of the visual keys is the reference's, of the kernel's scores. -/
module

public import proofs.«01_k».proof.Proof.Value.RefRead

@[expose] public section

set_option maxRecDepth 16384

noncomputable section

namespace Cert.KernelIdeal.Value

open Cert.KernelIdeal Cert.KernelIdeal.Gen Cert.KernelIdeal.Whole
open Idealize.ShloMosaic Idealize.ShloMosaic.TcCoe

variable (m : (ℓ : Loc nD τ sig) → Buf (Elt Ideal) ℓ) (ρ : Dev nD → PrngReg) (c : Dev nD)

/-- The importance is computed from the scores by the reference's operations. -/
theorem aImp_eq : aImp m ρ c = broadcastInDim S1x512 ![1] bcast_S512_S1x512_1 (Cert.ReferenceIdeal.Value.impOf
    (broadcastInDim S1x16x1479x512 ![1, 2, 3] bcast_S16x1479x512_S1x16x1479x512_1_2_3 (aSc m ρ c))) := by
  unfold aImp W4 hostOps2
  after_results_simp
  rfl

/-- The importance of a visual key. -/
theorem aImp_apply (j : Fin 512) : aImp m ρ c (ix2 0 j) = (Cert.ReferenceIdeal.Value.impOf
    (broadcastInDim S1x16x1479x512 ![1, 2, 3] bcast_S16x1479x512_S1x16x1479x512_1_2_3 (aSc m ρ c))) (ix1 j) := by
  rw [aImp_eq]
  generalize Cert.ReferenceIdeal.Value.impOf _ = y
  pointwise

end Cert.KernelIdeal.Value

end
-- ==== Proof.Value.Reg2.lean ====
/- Which image keys region 2 keeps: those that fewer than 256 others come before. -/
module

public import proofs.«01_k».proof.Proof.Value.Arrays

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

variable (m : (ℓ : Loc nD τ sig) → Buf (Elt Ideal) ℓ) (ρ : Dev nD → PrngReg)

/-- Whether key `i` comes before key `j`: it is more important, or as important and earlier. -/
def beats (a : Fin 512 → EReal) (i j : Fin 512) : Prop := a j < a i ∨ (a i = a j ∧ i < j)

open Classical in
/-- How many keys come before key `j`. -/
def rank (a : Fin 512 → EReal) (j : Fin 512) : ℕ := (Finset.univ.filter fun i => beats a i j).card

open Classical in
/-- The wrapping sum of widened bits, below the word's range, is their count. -/
theorem fold_addi_card {ι : Type} [DecidableEq ι] (p : ι → Prop) (s : Finset ι) (hs : s.card < 2 ^ 31) :
    Finset.fold IntOp.addi (0#32) (fun i => (if p i then 1#32 else 0#32)) s = BitVec.ofNat 32 (s.filter p).card := by
  induction s using Finset.induction_on with
  | empty => rfl
  | insert a s ha ih =>
    rw [Finset.card_insert_of_notMem ha] at hs
    rw [Finset.fold_insert ha, ih (by omega), Finset.filter_insert]
    by_cases h : p a
    · rw [if_pos h, if_pos h, Finset.card_insert_of_notMem (by simp [ha])]
      apply BitVec.eq_of_toNat_eq
      simp [IntOp.addi, Nat.add_comm]
    · rw [if_neg h, if_neg h]
      simp [IntOp.addi]

open Classical in
/-- The kept keys' words. -/
theorem k2_pay1_apply (x : Vec Ideal S1x512 .f32) (j : Fin 512) :
    k2_pay1 x (ix2 0 j) = if rank (fun i => x (ix2 0 i)) j < 256 then 1#32 else 0#32 := by
  pointwise [k2_pay1]
  have e : ∀ i : Fin 512, BitVec.setWidth 32
              (IntOp.ori (BitVec.ofBool (decide (x (ix2 0 j) < x (ix2 0 i))))
                (IntOp.andi (BitVec.ofBool (decide (x (ix2 0 i) = x (ix2 0 j))))
                  (IntOp.cmpi CmpIPredicate.slt (BitVec.ofNat 32 i.val) (BitVec.ofNat 32 j.val))))
      = if beats (fun i => x (ix2 0 i)) i j then 1#32 else 0#32 := by
    intro i
    have hlt : IntOp.cmpi CmpIPredicate.slt (BitVec.ofNat 32 i.val) (BitVec.ofNat 32 j.val) = BitVec.ofBool (decide (i < j)) := by
      have h1 := i.isLt
      have h2 := j.isLt
      simp only [IntOp.cmpi]
      congr 1
      simp only [BitVec.slt, Fin.lt_def]
      rw [BitVec.toInt_eq_toNat_of_lt (by simp; omega), BitVec.toInt_eq_toNat_of_lt (by simp; omega)]
      simp only [BitVec.toNat_ofNat, decide_eq_decide]
      omega
    rw [hlt]
    unfold beats
    by_cases h1 : x (ix2 0 j) < x (ix2 0 i) <;> by_cases h2 : x (ix2 0 i) = x (ix2 0 j) <;> by_cases h3 : i < j <;>
      simp [h1, h2, h3, IntOp.ori, IntOp.andi]
  show BitVec.setWidth 32 (IntOp.cmpi .slt (Finset.fold IntOp.addi (0#32) (fun i : Fin 512 => BitVec.setWidth 32
      (IntOp.ori (BitVec.ofBool (decide (x (ix2 0 j) < x (ix2 0 i))))
        (IntOp.andi (BitVec.ofBool (decide (x (ix2 0 i) = x (ix2 0 j))))
          (IntOp.cmpi CmpIPredicate.slt (BitVec.ofNat 32 i.val) (BitVec.ofNat 32 j.val))))) Finset.univ) 256#32) = _
  simp only [e]
  rw [fold_addi_card _ _ (by simp)]
  have hr : rank (fun i => x (ix2 0 i)) j ≤ 512 := (Finset.card_le_univ _).trans (by simp)
  show BitVec.setWidth 32 (IntOp.cmpi .slt (BitVec.ofNat 32 (rank (fun i => x (ix2 0 i)) j)) 256#32) = _
  generalize rank (fun i => x (ix2 0 i)) j = n at *
  have hc : IntOp.cmpi CmpIPredicate.slt (BitVec.ofNat 32 n) 256#32 = BitVec.ofBool (decide (n < 256)) := by
    simp only [IntOp.cmpi]
    congr 1
    simp only [BitVec.slt]
    rw [BitVec.toInt_eq_toNat_of_lt (by simp; omega), BitVec.toInt_eq_toNat_of_lt (by decide)]
    simp only [BitVec.toNat_ofNat, decide_eq_decide]
    omega
  rw [hc]
  by_cases h : n < 256 <;> simp [h]

/-- The block that each step has in window 0. -/
theorem idx2_0 : ∀ t : Fin grid2.N, win2_0.index t = ![0, 0] := by decide +kernel
/-- The block that each step has in window 1. -/
theorem idx2_1 : ∀ t : Fin grid2.N, win2_1.index t = ![0, 0] := by decide +kernel

open Classical in
/-- Region 2's result array. -/
theorem aKeep_apply (c : Dev nD) (j : Fin 512) :
    aKeep m ρ c (ix2 0 j) = if rank (fun i => aImp m ρ c (ix2 0 i)) j < 256 then 1#32 else 0#32 := by
  have key : aKeep m ρ c = fun i => if rank (fun i => aImp m ρ c (ix2 0 i)) (i 1) < 256 then 1#32 else 0#32 := by
    refine (W5_arr m ρ c 1).trans ?_
    refine (dat2 (V4 m ρ) c).arrAt_eq_of_covers 1 _ (by decide +kernel) fun t hf y => ?_
    idx_vars y
    rw [after2_1]
    obtain rfl : y0 = 0 := Subsingleton.elim _ _
    have e2 : ((cfg2.win 1).blk t).view.emb (ix2 0 y1) = ix2 0 y1 := by
      funext a; apply Fin.ext; fin_cases a <;> blk_simp [idx2_1] <;> simp
    rw [e2]
    blk_simp
    frame_out
    have x0 : ∀ i, (iblk2 (V4 m ρ) c 0 t : Vec Ideal S1x512 .f32) (ix2 0 i) = aImp m ρ c (ix2 0 i) := by
      intro i
      refine congrArg (aImp m ρ c) ?_
      funext a; apply Fin.ext; fin_cases a <;> blk_simp [idx2_0] <;> simp
    refine (k2_pay1_apply _ y1).trans ?_
    simp only [x0]
    rfl
  rw [key]; rfl

end Cert.KernelIdeal.Value

end
-- ==== Proof.Value.Select.lean ====
/- The stable descending sort puts each key at its rank: the top 256 positions are the keys of rank below 256. -/
module

public import proofs.«01_k».proof.Proof.Value.Reg2
public import Idealize.ShloMosaic.Lib.SortFacts

@[expose] public section

noncomputable section

namespace Cert.KernelIdeal.Value

open Idealize.ShloMosaic

/-- On an increasing list, the stable insertion sort only asks whether a later element goes before an earlier one. -/
theorem stableSort_increasing {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

/-- The sorted list depends only on how later entries compare with earlier ones. -/
theorem sortedFrom_increasing {n : ℕ} (B B' : Fin n → Fin n → Bool) (h : ∀ a b, a < b → B b a = B' b a) (k : Fin n) :
    sortedFrom B k = sortedFrom B' k := by
  have e : sortPositions n B = sortPositions n B' := stableSort_increasing B B' h _ (List.pairwise_lt_finRange n)
  unfold sortedFrom
  simp only [List.get_eq_getElem, e, Fin.val_cast]

/-- Not being beaten is transitive. -/
theorem not_beats_trans (a : Fin 512 → EReal) (i j k : Fin 512) (h : ¬ beats a i j) (h' : ¬ beats a j k) : ¬ beats a i k := by
  unfold beats at *
  push Not at *
  obtain ⟨h1, h2⟩ := h
  obtain ⟨h3, h4⟩ := h'
  refine ⟨h1.trans h3, fun e => ?_⟩
  have e1 : a i = a j := le_antisymm h1 (h3.trans e.ge)
  exact (h4 (e1 ▸ e)).trans (h2 e1)

/-- Of two entries at most one beats the other. -/
theorem beats_asymm (a : Fin 512 → EReal) (i j : Fin 512) (h : beats a i j) : ¬ beats a j i := by
  unfold beats at *
  rintro (h' | ⟨e', l'⟩) <;> rcases h with h | ⟨e, l⟩
  · exact lt_asymm h h'
  · exact absurd h' (by rw [e]; exact lt_irrefl _)
  · exact absurd h (by rw [e']; exact lt_irrefl _)
  · exact lt_asymm l l'

/-- Of two different entries one beats the other. -/
theorem beats_total (a : Fin 512 → EReal) (i j : Fin 512) (hne : i ≠ j) (h : ¬ beats a j i) : beats a i j := by
  unfold beats at *
  push Not at h
  rcases h.1.lt_or_eq with l | e
  · exact .inl l
  · exact .inr ⟨e.symm, lt_of_le_of_ne (h.2 e) hne⟩

open Classical in
/-- The element that a stable descending sort puts at position `k` has rank `k`. -/
theorem rank_sortedFrom (a : Fin 512 → EReal) (B : Fin 512 → Fin 512 → Bool) (hB : ∀ i j, B i j = decide (a j < a i)) (k : Fin 512) :
    rank a (sortedFrom B k) = k.val := by
  have e : ∀ k, sortedFrom B k = sortedFrom (fun i j => decide (beats a i j)) k := by
    refine sortedFrom_increasing _ _ fun i j hij => ?_
    rw [hB]
    refine decide_eq_decide.mpr ?_
    unfold beats
    exact ⟨.inl, fun h => h.elim id fun h => absurd h.2 (not_lt.mpr hij.le)⟩
  simp only [e]
  generalize hπ : sortedFrom (fun i j => decide (beats a i j)) = π
  have inj : Function.Injective π := hπ ▸ sortedFrom_injective _
  have surj : Function.Surjective π := hπ ▸ sortedFrom_surjective _
  have noinv : ∀ i j, i < j → ¬ beats a (π j) (π i) := by
    intro i j hij
    have := sortedFrom_noInversion (fun i j => decide (beats a i j)) (fun i j => decide (beats a i j))
      (fun i j h => decide_eq_false (beats_asymm a i j (of_decide_eq_true h))) (fun _ _ h => h)
      (fun i j k h h' => decide_eq_false (not_beats_trans a i j k (of_decide_eq_false h) (of_decide_eq_false h'))) i j hij
    rw [hπ] at this
    exact of_decide_eq_false this
  have key : (Finset.univ.filter fun i => beats a i (π k)) = (Finset.Iio k).map ⟨π, inj⟩ := by
    ext i
    obtain ⟨r, rfl⟩ := surj i
    simp only [Finset.mem_filter, Finset.mem_univ, true_and, Finset.mem_map, Finset.mem_Iio, Function.Embedding.coeFn_mk]
    constructor
    · intro h
      refine ⟨r, ?_, rfl⟩
      rcases lt_trichotomy r k with l | e | l
      · exact l
      · subst e; exact absurd h (fun h => beats_asymm a _ _ h h)
      · exact absurd h (noinv k r l)
    · rintro ⟨r', l, e⟩
      obtain rfl := inj e
      exact beats_total a _ _ (fun e => (ne_of_lt l) (inj e)) (noinv _ _ l)
  unfold rank
  rw [key, Finset.card_map, Fin.card_Iio]

end Cert.KernelIdeal.Value

end
-- ==== Proof.Value.Kept.lean ====
/- The positions kept: all but the visual ones whose key is not among the 256 most important. -/
module

public import proofs.«01_k».proof.Proof.Value.Select
public import proofs.«01_k».proof.Proof.Value.RefRead

@[expose] public section

set_option maxRecDepth 16384

noncomputable section

namespace Cert.ReferenceIdeal.Value

open Cert.ReferenceIdeal Cert.ReferenceIdeal.Gen
open Idealize.ShloMosaic Idealize.ShloMosaic.TcCoe

/-- Position `p` is kept: if it is a visual one, its key is among the 256 most important. -/
def kept (a : Fin 512 → EReal) (p : Fin 2048) : Prop :=
  ∀ h : 1 ≤ p.val ∧ p.val < 513, Cert.KernelIdeal.Value.rank a ⟨p.val - 1, by omega⟩ < 256

/-- The `k`-th of the stable descending order. -/
def top (a : Fin 512 → EReal) (k : Fin 256) : Fin 512 := sortedFrom (fun i j => decide (a j < a i)) ⟨k.val, by omega⟩

/-- The chosen indices are distinct. -/
theorem top_injective (a : Fin 512 → EReal) : Function.Injective (top a) := by
  intro i j h
  have := congrArg Fin.val (sortedFrom_injective _ h)
  exact Fin.ext this

/-- They are the indices of rank below 256. -/
theorem top_range (a : Fin 512 → EReal) (j : Fin 512) : (∃ k, top a k = j) ↔ Cert.KernelIdeal.Value.rank a j < 256 := by
  constructor
  · rintro ⟨k, rfl⟩
    unfold top
    rw [Cert.KernelIdeal.Value.rank_sortedFrom a _ (fun _ _ => rfl)]
    exact k.isLt
  · intro h
    obtain ⟨r, rfl⟩ := sortedFrom_surjective (fun i j => decide (a j < a i)) j
    rw [Cert.KernelIdeal.Value.rank_sortedFrom a _ (fun _ _ => rfl)] at h
    exact ⟨⟨r.val, h⟩, rfl⟩

/-- The two ways to write an index of one axis. -/
theorem ofFin_eq {n : ℕ} (k : Fin n) : Shape.Idx.ofFin k = ix1 k := by
  funext b
  match b with
  | ⟨0, _⟩ => exact Fin.ext rfl

/-- A sort of a row reads it through the sorting of the positions. -/
theorem sort_read {n : ℕ} {α : Type} (cmp : α → α → BitVec 1) (y : (⟨1, ![n]⟩ : Shape).Idx → α) (j : Fin n) :
    Host.sort ⟨1, ![n]⟩ 0 cmp y (ix1 j) = y (ix1 (sortedFrom (fun k k' => cmp (y (ix1 k)) (y (ix1 k')) == 1#1) j)) := by
  rw [Host.sort_rank1]
  simp only [ofFin_eq]
  try rfl

/-- The second result of a sort of two rows. -/
theorem sort2_read {n : ℕ} {α β : Type} (cmp : α × β → α × β → BitVec 1) (x : (⟨1, ![n]⟩ : Shape).Idx → α) (y : (⟨1, ![n]⟩ : Shape).Idx → β) (j : Fin n) :
    (Host.sort2 ⟨1, ![n]⟩ 0 cmp x y).2 (ix1 j) = y (ix1 (sortedFrom (fun k k' => cmp (x (ix1 k), y (ix1 k)) (x (ix1 k'), y (ix1 k')) == 1#1) j)) := by
  rw [Host.sort2_eq_sortBy]
  unfold Host.sortBy
  simp [ofFin_eq]

/-- The positions of a top-k of a row. -/
theorem topK_positions {n t : ℕ} {α : Type} (ht : t ≤ n) (gt : α → α → BitVec 1) (x : (⟨1, ![n]⟩ : Shape).Idx → α)
    (h : (⟨1, ![n]⟩ : Shape).Slices (fun _ => 0) ⟨1, ![t]⟩) (k : Fin t) :
    (Host.topK ⟨1, ![t]⟩ 0 gt x h).2 (ix1 k)
      = BitVec.ofNat 32 (sortedFrom (fun i j => gt (x (ix1 i)) (x (ix1 j)) == 1#1) ⟨k.val, k.isLt.trans_le ht⟩).val := by
  unfold Host.topK
  refine (congrArg (Host.sort2 ⟨1, ![n]⟩ 0 (fun l r : α × BitVec 32 => gt l.1 r.1) x (fun i => BitVec.ofNat 32 (i 0).val)).2
    (?_ : _ = ix1 (⟨k.val, k.isLt.trans_le ht⟩ : Fin n))).trans ?_
  · funext b
    match b with
    | ⟨0, _⟩ => exact Fin.ext (Nat.zero_add _)
  · exact sort2_read _ _ _ _

/-- The top-k's table of positions. -/
theorem topK_read (x : FVec Ideal S512 .f32) (k : Fin 256) :
    (Host.topK S256 0 (FloatOps.cmpfTotal .gt) x sliceFits_S512_S256).2 (ix1 k) = BitVec.ofNat 32 (top (fun j => x (ix1 j)) k).val := by
  rw [topK_positions (n := 512) (t := 256) (by decide)]
  have e : (fun i j : Fin 512 => (FloatOps.cmpfTotal .gt (x (ix1 i)) (x (ix1 j)) : BitVec 1) == 1#1) = fun i j => decide (x (ix1 j) < x (ix1 i)) := by
    funext i j
    show (BitVec.ofBool (decide (x (ix1 j) < x (ix1 i))) == 1#1) = _
    by_cases hb : x (ix1 j) < x (ix1 i)
    · rw [decide_eq_true hb]; rfl
    · rw [decide_eq_false hb]; rfl
  rw [e]
  unfold top
  rfl

/-- The listing of the positions kept: the first, the selected visual ones in the order `σ` of their ranks, and the rest. -/
def listing (a : Fin 512 → EReal) (σ : Fin 256 → Fin 256) (i : Fin 1792) : Fin 2048 :=
  if h : i.val < 1 then ⟨i.val, by omega⟩ else if h' : i.val - 1 < 256 then ⟨1 + (top a (σ ⟨i.val - 1, h'⟩)).val, by omega⟩
    else ⟨513 + (i.val - 1 - 256), by omega⟩

/-- The list starts with position 0. -/
theorem listing_first (a : Fin 512 → EReal) (σ : Fin 256 → Fin 256) (i : Fin 1792) (h : i.val < 1) : (listing a σ i).val = i.val := by
  unfold listing; rw [dif_pos h]

/-- Then come the chosen vision positions. -/
theorem listing_visual (a : Fin 512 → EReal) (σ : Fin 256 → Fin 256) (i : Fin 1792) (h : ¬ i.val < 1) (h' : i.val - 1 < 256) :
    (listing a σ i).val = 1 + (top a (σ ⟨i.val - 1, h'⟩)).val := by
  unfold listing; rw [dif_neg h, dif_pos h']

/-- Then all the later positions. -/
theorem listing_rest (a : Fin 512 → EReal) (σ : Fin 256 → Fin 256) (i : Fin 1792) (h : ¬ i.val < 1) (h' : ¬ i.val - 1 < 256) :
    (listing a σ i).val = 513 + (i.val - 1 - 256) := by
  unfold listing; rw [dif_neg h, dif_neg h']

/-- The listing repeats no position. -/
theorem listing_injective (a : Fin 512 → EReal) (σ : Fin 256 → Fin 256) (hσ : Function.Injective σ) : Function.Injective (listing a σ) := by
  intro i j h
  have h := congrArg Fin.val h
  apply Fin.ext
  by_cases h1 : i.val < 1 <;> by_cases h2 : j.val < 1
  · omega
  · rw [listing_first a σ i h1] at h
    by_cases h3 : j.val - 1 < 256
    · rw [listing_visual a σ j h2 h3] at h; omega
    · rw [listing_rest a σ j h2 h3] at h; omega
  · rw [listing_first a σ j h2] at h
    by_cases h3 : i.val - 1 < 256
    · rw [listing_visual a σ i h1 h3] at h; omega
    · rw [listing_rest a σ i h1 h3] at h; omega
  · by_cases h3 : i.val - 1 < 256 <;> by_cases h4 : j.val - 1 < 256
    · rw [listing_visual a σ i h1 h3, listing_visual a σ j h2 h4] at h
      have := congrArg Fin.val (hσ (top_injective a (Fin.ext (Nat.add_left_cancel h))))
      simp only at this
      omega
    · rw [listing_visual a σ i h1 h3, listing_rest a σ j h2 h4] at h; omega
    · rw [listing_rest a σ i h1 h3, listing_visual a σ j h2 h4] at h; omega
    · rw [listing_rest a σ i h1 h3, listing_rest a σ j h2 h4] at h; omega

/-- The listing lists the positions kept. -/
theorem listing_range (a : Fin 512 → EReal) (σ : Fin 256 → Fin 256) (hσ : Function.Surjective σ) (p : Fin 2048) :
    (∃ i, listing a σ i = p) ↔ kept a p := by
  constructor
  · rintro ⟨i, rfl⟩ h
    by_cases h1 : i.val < 1
    · rw [listing_first a σ i h1] at h; omega
    · by_cases h2 : i.val - 1 < 256
      · refine (top_range a _).mp ⟨σ ⟨i.val - 1, h2⟩, Fin.ext ?_⟩
        show _ = (listing a σ i).val - 1
        rw [listing_visual a σ i h1 h2]
        omega
      · rw [listing_rest a σ i h1 h2] at h; omega
  · intro h
    by_cases h1 : p.val < 1
    · exact ⟨⟨p.val, by omega⟩, Fin.ext (listing_first a σ _ h1)⟩
    · by_cases h2 : p.val < 513
      · obtain ⟨k, hk⟩ := (top_range a _).mpr (h ⟨by omega, h2⟩)
        obtain ⟨r, rfl⟩ := hσ k
        refine ⟨⟨r.val + 1, by omega⟩, Fin.ext ?_⟩
        refine (listing_visual a σ ⟨r.val + 1, by omega⟩ (Nat.not_lt.mpr (Nat.le_add_left _ _)) (by show r.val + 1 - 1 < 256; omega)).trans ?_
        have e : (⟨r.val + 1 - 1, by omega⟩ : Fin 256) = r := Fin.ext (Nat.add_sub_cancel _ _)
        have hv := congrArg Fin.val hk
        rw [← e] at hv
        refine (congrArg (1 + ·) hv).trans ?_
        show 1 + (p.val - 1) = p.val
        omega
      · refine ⟨⟨p.val - 513 + 257, by omega⟩, Fin.ext ?_⟩
        refine (listing_rest a σ ⟨p.val - 513 + 257, by omega⟩ (by show ¬ p.val - 513 + 257 < 1; omega) (by show ¬ p.val - 513 + 257 - 1 < 256; omega)).trans ?_
        show 513 + (p.val - 513 + 257 - 1 - 256) = p.val
        omega

/-- The order in which a table of words is sorted. -/
def order (y : IVec S256 32) : Fin 256 → Fin 256 :=
  sortedFrom (fun k k' => comparator_i32_d0 (y (ix1 k)) (y (ix1 k')) == 1#1)

/-- The table of positions, of the importance and of the top-k's table. -/
theorem table_read (y : IVec S256 32) (a : Fin 512 → EReal) (hy : ∀ k, y (ix1 k) = BitVec.ofNat 32 (top a k).val) (i : Fin 1792) :
    (concatenate S1792 0 [⟨S1, iotaInDim S1 32 0⟩,
      ⟨S256, addi (Host.sort S256 0 comparator_i32_d0 y) (broadcastInDim S256 ![] bcast_S_S256 (constantI S_ 32 1#32))⟩,
      ⟨S1535, addi (broadcastInDim S1535 ![] bcast_S_S1535 (constantI S_ 32 513#32)) (iotaInDim S1535 32 0)⟩]
      concatenates_S1_S256_S1535_S1792_d0 : IVec S1792 32) (ix1 i) = BitVec.ofNat 32 (listing a (order y) i).val := by
  have hs : ∀ j, Host.sort S256 0 comparator_i32_d0 y (ix1 j) = BitVec.ofNat 32 (top a (order y j)).val :=
    fun j => (sort_read (n := 256) comparator_i32_d0 y j).trans (hy _)
  generalize Host.sort S256 0 comparator_i32_d0 y = z at hs ⊢
  pointwise
  by_cases h1 : i.val < 1
  · rw [dif_pos h1, listing_first a _ i h1]
  · rw [dif_neg h1]
    by_cases h2 : i.val - 1 < 256
    · rw [dif_pos h2, listing_visual a _ i h1 h2, hs]
      show BitVec.ofNat 32 _ + 1#32 = _
      rw [← BitVec.ofNat_add, Nat.add_comm]
    · rw [dif_neg h2, listing_rest a _ i h1 h2]
      show 513#32 + BitVec.ofNat 32 _ = _
      rw [← BitVec.ofNat_add]

/-- The reference's table of positions is a listing, without repetition, of the positions kept. -/
theorem rPos_read (V : Valuation τ sig (Elt Ideal)) :
    ∃ e : Fin 1792 ↪ Fin 2048, (∀ i, (res_main_v77 V : IVec S1792 32) (ix1 i) = BitVec.ofNat 32 (e i).val)
      ∧ ∀ p, (∃ i, e i = p) ↔ kept (fun j => rImp V (ix1 j)) p :=
  ⟨⟨listing (fun j => rImp V (ix1 j)) (order (Host.topK S256 0 (FloatOps.cmpfTotal .gt) (rImp V) sliceFits_S512_S256).2),
    listing_injective _ _ (sortedFrom_injective _)⟩,
    fun i => table_read _ _ (fun k => topK_read _ k) i, fun p => listing_range _ _ (sortedFrom_surjective _) p⟩

end Cert.ReferenceIdeal.Value

end
-- ==== Proof.Value.Pos.lean ====
/- The positions that the attention may read, of the selection. -/
module

public import proofs.«01_k».proof.Proof.Value.Kept

@[expose] public section

set_option maxRecDepth 16384

noncomputable section

namespace Cert.KernelIdeal.Value

open Cert.KernelIdeal Cert.KernelIdeal.Gen Cert.KernelIdeal.Whole
open Idealize.ShloMosaic Idealize.ShloMosaic.TcCoe

variable (m : (ℓ : Loc nD τ sig) → Buf (Elt Ideal) ℓ) (ρ : Dev nD → PrngReg) (c : Dev nD)

/-- The three parts of the table of positions, one after another. -/
def cat3 (x : IVec S1 32) (y : IVec S512 32) (z : IVec S1535 32) : IVec S2048 32 :=
  concatenate S2048 0 [⟨S1, x⟩, ⟨S512, y⟩, ⟨S1535, z⟩] concatenates_S1_S512_S1535_S2048_d0

/-- Equal parts make equal lists. -/
theorem cat3_congr {x x' : IVec S1 32} {y y' : IVec S512 32} {z z' : IVec S1535 32} (hx : x = x') (hy : y = y') (hz : z = z') :
    cat3 x y z = cat3 x' y' z' := by rw [hx, hy, hz]

/-- The position table, from the parts it is made of. -/
theorem after3_2 (V : Valuation τ sig (Elt Ideal)) : (StableHlo.after hostOps3_2 V) (Proc.devRef .tc main_v49) =
    broadcastInDim S8x2048 ![0, 1] bcast_S1x2048_S8x2048_0_1 (broadcastInDim S1x2048 ![1] bcast_S2048_S1x2048_1
    (concatenate S2048 0 [⟨S1, extractStridedSlice S1 ![0] (V (Proc.devRef .tc main_v39) : IVec S2048 32) slices_S2048_S1_0⟩,
      ⟨S512, (V (Proc.devRef .tc main_v44) : IVec S512 32)⟩,
      ⟨S1535, extractStridedSlice S1535 ![513] (V (Proc.devRef .tc main_v39) : IVec S2048 32) slices_S2048_S1535_513⟩] concatenates_S1_S512_S1535_S2048_d0)) := by
  unfold hostOps3_2
  after_results_simp
  refine congrArg _ (congrArg _ (cat3_congr ?_ ?_ ?_))
  · show (_ : Valuation τ sig (Elt Ideal)) (Proc.devRef .tc main_v45) = _
    after_results_simp
  · show (_ : Valuation τ sig (Elt Ideal)) (Proc.devRef .tc main_v44) = _
    after_results_simp
  · show (_ : Valuation τ sig (Elt Ideal)) (Proc.devRef .tc main_v46) = _
    after_results_simp

/-- The vision positions, from the flags. -/
theorem after3_1 (V : Valuation τ sig (Elt Ideal)) : (StableHlo.after hostOps3_1 V) (Proc.devRef .tc main_v44) =
    select (V (Proc.devRef .tc main_v42) : IVec S512 1) (V (Proc.devRef .tc main_v43) : IVec S512 32)
      (broadcastInDim S512 ![] bcast_S_S512 (V (Proc.devRef .tc main_c_8) : IVec S_ 32)) := by
  unfold hostOps3_1
  simp only [StableHlo.TRef.unary, StableHlo.TRef.ternary, StableHlo.TRef.toBuf, StableHlo.TRef.ofBuf, cast_eq]
  after_results_simp
  try rfl

/-- The position numbers before the table is made. -/
theorem W7_39 : (W7 m ρ c (Proc.devRef .tc main_v39) : IVec S2048 32) = iotaInDim S2048 32 0 := by
  refine (W7_of m ρ c main_v39 (by decide)).trans ?_
  unfold W6 hostOps3
  after_results_simp
  try rfl

/-- The vision positions before the table is made. -/
theorem W7_44 : (W7 m ρ c (Proc.devRef .tc main_v44) : IVec S512 32) =
    select (cmpi .eq (shapeCast S512 (aKeep m ρ c) shapeCasts_S1x512_S512) (broadcastInDim S512 ![] bcast_S_S512 (constantI S_ 32 1#32)))
        (extractStridedSlice S512 ![1] (iotaInDim S2048 32 0) slices_S2048_S512_1) (broadcastInDim S512 ![] bcast_S_S512 (constantI S_ 32 16777216#32)) := by
  show (StableHlo.after hostOps3_1 (W6 m ρ c)) (Proc.devRef .tc main_v44) = _
  rw [after3_1]
  unfold W6 hostOps3
  after_results_simp
  try rfl

/-- The position table in full. -/
theorem aPos_eq : aPos m ρ c = broadcastInDim S8x2048 ![0, 1] bcast_S1x2048_S8x2048_0_1 (broadcastInDim S1x2048 ![1] bcast_S2048_S1x2048_1
    (concatenate S2048 0 [⟨S1, extractStridedSlice S1 ![0] (iotaInDim S2048 32 0) slices_S2048_S1_0⟩,
      ⟨S512, select (cmpi .eq (shapeCast S512 (aKeep m ρ c) shapeCasts_S1x512_S512) (broadcastInDim S512 ![] bcast_S_S512 (constantI S_ 32 1#32)))
        (extractStridedSlice S512 ![1] (iotaInDim S2048 32 0) slices_S2048_S512_1) (broadcastInDim S512 ![] bcast_S_S512 (constantI S_ 32 16777216#32))⟩,
      ⟨S1535, extractStridedSlice S1535 ![513] (iotaInDim S2048 32 0) slices_S2048_S1535_513⟩] concatenates_S1_S512_S1535_S2048_d0)) := by
  unfold aPos
  show (StableHlo.after hostOps3_2 (W7 m ρ c)) (Proc.devRef .tc main_v49) = _
  rw [after3_2, W7_39, W7_44]

open Classical in
/-- A position may be read where it is not a visual one, or its visual key is selected; any other is out of reach. -/
theorem aPos_apply (p : Fin 2048) : aPos m ρ c (ix2 0 p) =
    if Cert.ReferenceIdeal.Value.kept (fun j => aImp m ρ c (ix2 0 j)) p then BitVec.ofNat 32 p.val else 16777216#32 := by
  rw [aPos_eq]
  pointwise
  unfold Cert.ReferenceIdeal.Value.kept
  split
  · rw [if_pos (fun h => by omega)]
  · split
    · rw [aKeep_apply]
      split <;> rename_i hr
      · rw [if_pos (fun _ => hr)]
        show BitVec.ofNat 32 (1 + (p.val - 1)) = _
        congr 1; omega
      · rw [if_neg (fun h => hr (h ⟨by omega, by omega⟩))]
        rfl
    · rw [if_pos (fun h => by omega)]
      congr 1; omega

end Cert.KernelIdeal.Value

end
-- ==== Proof.Value.Reg1.lean ====
/- The scores that region 1 leaves, read at an index: the scaled products of text queries and image keys. -/
module

public import proofs.«01_k».proof.Proof.Value.Arrays

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

variable (m : (ℓ : Loc nD τ sig) → Buf (Elt Ideal) ℓ) (ρ : Dev nD → PrngReg)

/-- One block of scores: the products of the queries and the keys of one head, scaled. -/
theorem k1_pay1_apply (x : Vec Ideal S1x1480x128 .f32) (y : Vec Ideal S1x512x128 .f32) (q : Fin 1479) (v : Fin 512) :
    k1_pay1 x y (ix3 0 q v) = (∑ d : Fin 128, x (ix3 0 ⟨q.val, by omega⟩ d) * y (ix3 0 v d)) * cinv := by
  pointwise [k1_pay1, named_cinv]

/-- The block that each step has in window 0. -/
theorem idx1_0 : ∀ t : Fin grid1.N, win1_0.index t = ![t.val, 0, 0] := by decide +kernel
/-- The block that each step has in window 1. -/
theorem idx1_1 : ∀ t : Fin grid1.N, win1_1.index t = ![t.val, 0, 0] := by decide +kernel
/-- The block that each step has in window 2. -/
theorem idx1_2 : ∀ t : Fin grid1.N, win1_2.index t = ![t.val, 0, 0] := by decide +kernel

/-- Region 1's result array. -/
theorem aSc_apply (c : Dev nD) (h : Fin 16) (q : Fin 1479) (v : Fin 512) :
    aSc m ρ c (ix3 h q v)
      = (∑ d : Fin 128, aQt m ρ c (ix3 h ⟨q.val, by omega⟩ d) * aKv m ρ c (ix3 h v d)) * cinv := by
  have key : aSc m ρ c
      = fun i => (∑ d : Fin 128, aQt m ρ c (ix3 (i 0) ⟨(i 1).val, by have : (i 1).val < 1479 := (i 1).isLt; omega⟩ d)
          * aKv m ρ c (ix3 (i 0) (i 2) d)) * cinv := by
    refine (W3_arr m ρ c 2).trans ?_
    refine (dat1 (V2 m ρ) c).arrAt_eq_of_covers 2 _ (by decide +kernel) fun t hf y => ?_
    idx_vars y
    rw [after1_2]
    have e2 : ((cfg1.win 2).blk t).view.emb (ix3 y0 y1 y2) = ix3 ⟨t.val, t.isLt⟩ y1 y2 := by
      funext a; apply Fin.ext; fin_cases a <;> blk_simp [idx1_2] <;> simp <;> omega
    rw [e2]
    blk_simp
    frame_out
    have x0 : ∀ (b : Fin 1480) (d : Fin 128), (iblk1 (V2 m ρ) c 0 t : Vec Ideal S1x1480x128 .f32) (ix3 0 b d) = aQt m ρ c (ix3 ⟨t.val, t.isLt⟩ b d) := by
      intro b d
      refine congrArg (aQt m ρ c) ?_
      funext a; apply Fin.ext; fin_cases a <;> blk_simp [idx1_0] <;> simp <;> omega
    have x1 : ∀ b d, (iblk1 (V2 m ρ) c 1 t : Vec Ideal S1x512x128 .f32) (ix3 0 b d) = aKv m ρ c (ix3 ⟨t.val, t.isLt⟩ b d) := by
      intro b d
      refine congrArg (aKv m ρ c) ?_
      funext a; apply Fin.ext; fin_cases a <;> blk_simp [idx1_1] <;> simp <;> omega
    obtain rfl : y0 = 0 := Subsingleton.elim _ _
    refine (k1_pay1_apply _ _ y1 y2).trans ?_
    refine congrArg (· * cinv) (Finset.sum_congr rfl fun d _ => ?_)
    rw [x0, x1]
    rfl
  rw [key]
  rfl

end Cert.KernelIdeal.Value

end
-- ==== Proof.Value.Same.lean ====
/- The arrays of the kernel are those of the reference, of the same arguments. -/
module

public import proofs.«01_k».proof.Proof.Value.RefAtt
public import proofs.«01_k».proof.Proof.Value.Importance
public import proofs.«01_k».proof.Proof.Value.Pos
public import proofs.«01_k».proof.Proof.Value.Reg1
public import proofs.«01_k».proof.Proof.Value.Att

@[expose] public section

set_option maxRecDepth 16384

noncomputable section

namespace Cert.KernelIdeal.Value

open Cert.KernelIdeal Cert.KernelIdeal.Gen Cert.KernelIdeal.Whole
open Idealize.ShloMosaic Idealize.ShloMosaic.TcCoe

variable (m : (ℓ : Loc nD τ sig) → Buf (Elt Ideal) ℓ) (ρ : Dev nD → PrngReg) (c : Dev nD)
variable (V : Valuation Cert.ReferenceIdeal.τ Cert.ReferenceIdeal.sig (Elt Ideal))

/-- The reference's arguments are the kernel's. -/
structure SameArgs : Prop where
  x : Cert.ReferenceIdeal.Value.rX V = aX m ρ c
  wq : Cert.ReferenceIdeal.Value.rWq V = aWq m ρ c
  wk : Cert.ReferenceIdeal.Value.rWk V = aWk m ρ c
  wv : Cert.ReferenceIdeal.Value.rWv V = aWv m ρ c
  wo : Cert.ReferenceIdeal.Value.rWo V = aWo m ρ c

variable (H : SameArgs m ρ c V)
include H

/-- The query projections agree. -/
theorem rQ0_same (h : Fin 16) (s : Fin 2048) (l : Fin 128) : Cert.ReferenceIdeal.Value.rQ0 V (ix4 0 h s l) = proj m ρ c (aWq m ρ c) s (col h l) := by
  rw [Cert.ReferenceIdeal.Value.rQ0_apply, H.x, H.wq]
  unfold proj
  exact Finset.sum_congr rfl fun d _ => by rw [aXb_apply]

/-- The key projections agree. -/
theorem rK0_same (h : Fin 16) (s : Fin 2048) (l : Fin 128) : Cert.ReferenceIdeal.Value.rK0 V (ix4 0 h s l) = proj m ρ c (aWk m ρ c) s (col h l) := by
  rw [Cert.ReferenceIdeal.Value.rK0_apply, H.x, H.wk]
  unfold proj
  exact Finset.sum_congr rfl fun d _ => by rw [aXb_apply]

/-- The values. -/
theorem rV_same (h : Fin 16) (s : Fin 2048) (l : Fin 128) : Cert.ReferenceIdeal.Value.rV V (ix4 0 h s l) = aVb m ρ c (ix3 h s l) := by
  rw [Cert.ReferenceIdeal.Value.rV_apply, H.x, H.wv, aVb_apply]
  unfold proj
  exact Finset.sum_congr rfl fun d _ => by rw [aXb_apply]

/-- The rotated queries. -/
theorem rQ_same (h : Fin 16) (s : Fin 2048) (l : Fin 128) : Cert.ReferenceIdeal.Value.rQ V (ix4 0 h s l) = rope m ρ c (aWq m ρ c) h s l := by
  have hc : Cert.ReferenceIdeal.Value.rCos V = aCos m ρ c := (aCos_eq m ρ c V).symm
  have hs : Cert.ReferenceIdeal.Value.rSin V = aSin m ρ c := (aSin_eq m ρ c V).symm
  rw [Cert.ReferenceIdeal.Value.rQ_apply, rQ0_same m ρ c V H, rQ0_same m ρ c V H, hc, hs]
  rfl

/-- The rotated keys. -/
theorem rK_same (h : Fin 16) (s : Fin 2048) (l : Fin 128) : Cert.ReferenceIdeal.Value.rK V (ix4 0 h s l) = rope m ρ c (aWk m ρ c) h s l := by
  have hc : Cert.ReferenceIdeal.Value.rCos V = aCos m ρ c := (aCos_eq m ρ c V).symm
  have hs : Cert.ReferenceIdeal.Value.rSin V = aSin m ρ c := (aSin_eq m ρ c V).symm
  rw [Cert.ReferenceIdeal.Value.rK_apply, rK0_same m ρ c V H, rK0_same m ρ c V H, hc, hs]
  rfl

/-- The scores of the visual keys. -/
theorem rSc_same (h : Fin 16) (q : Fin 1479) (v : Fin 512) : Cert.ReferenceIdeal.Value.rSc V (ix4 0 h q v) = aSc m ρ c (ix3 h q v) := by
  rw [Cert.ReferenceIdeal.Value.rSc_apply, aSc_apply, Cert.ReferenceIdeal.Value.rScale_eq]
  unfold cinv
  congr 1
  refine Finset.sum_congr rfl fun d _ => ?_
  rw [rQ_same m ρ c V H, rK_same m ρ c V H, aQt_apply, aKv_apply]

/-- The importance scores agree. -/
theorem bcast_aSc : broadcastInDim S1x16x1479x512 ![1, 2, 3] bcast_S16x1479x512_S1x16x1479x512_1_2_3 (aSc m ρ c) = Cert.ReferenceIdeal.Value.rSc V := by
  funext i
  idx_vars i
  obtain rfl : i0 = 0 := Subsingleton.elim _ _
  rw [rSc_same m ρ c V H]
  pointwise

/-- The importance of the visual keys. -/
theorem aImp_same (j : Fin 512) : aImp m ρ c (ix2 0 j) = Cert.ReferenceIdeal.Value.rImp V (ix1 j) := by
  rw [aImp_apply, bcast_aSc m ρ c V H, Cert.ReferenceIdeal.Value.rImp_eq]

open Classical in
/-- The mask. -/
theorem bias_same (s p : Fin 2048) : bias m ρ c s p =
    if Cert.ReferenceIdeal.Value.kept (fun j => Cert.ReferenceIdeal.Value.rImp V (ix1 j)) p ∧ p.val ≤ s.val then 0 else ⊥ := by
  unfold bias
  rw [aPos_apply, show (fun j => aImp m ρ c (ix2 0 j)) = fun j => Cert.ReferenceIdeal.Value.rImp V (ix1 j) from funext (aImp_same m ρ c V H)]
  have hp := p.isLt
  have hs := s.isLt
  by_cases hk : Cert.ReferenceIdeal.Value.kept (fun j => Cert.ReferenceIdeal.Value.rImp V (ix1 j)) p
  · have hi : (BitVec.ofNat 32 p.val).toInt = p.val := by
      rw [BitVec.toInt_eq_toNat_of_lt (by rw [BitVec.toNat_ofNat]; omega), BitVec.toNat_ofNat]
      omega
    rw [if_pos hk, hi]
    by_cases hl : p.val ≤ s.val
    · rw [if_pos (by exact_mod_cast hl), if_pos ⟨hk, hl⟩]
    · rw [if_neg (by exact_mod_cast hl), if_neg (fun h => hl h.2)]
  · have hn : ¬ ((16777216#32).toInt ≤ ((s.val : ℕ) : ℤ)) := by
      have : (16777216#32).toInt = 16777216 := by decide
      rw [this]
      omega
    rw [if_neg hk]
    rw [if_neg hn, if_neg (fun h => hk h.1)]

end Cert.KernelIdeal.Value

end
-- ==== Proof.Value.Finite.lean ====
/- What the precondition says: every entry of the activations and of the query and key weights is a real number. -/
module

public import proofs.«01_k».proof.Proof.Gen.Pre_finite_factors
public import proofs.«01_k».proof.Proof.Value.Arrays

@[expose] public section

set_option maxRecDepth 16384

noncomputable section

namespace Cert.Pre_finite_factors

open Cert.Pre_finite_factors Cert.Pre_finite_factors.Gen
open Idealize.ShloMosaic Idealize.ShloMosaic.TcCoe

/-- A conjunction of two flags is one only if both are. -/
theorem andi_one (a b : BitVec 1) (h : IntOp.andi a b = 1#1) : a = 1#1 ∧ b = 1#1 := by
  revert a b; decide

/-- So is a running conjunction. -/
theorem foldl_andi_one {ι : Type} (f : ι → BitVec 1) (l : List ι) (a : BitVec 1) (h : l.foldl (fun r i => IntOp.andi r (f i)) a = 1#1) :
    a = 1#1 ∧ ∀ i ∈ l, f i = 1#1 := by
  induction l generalizing a with
  | nil => exact ⟨h, by simp⟩
  | cons b l ih =>
    obtain ⟨h1, h2⟩ := ih _ h
    obtain ⟨h3, h4⟩ := andi_one _ _ h1
    refine ⟨h3, fun i hi => ?_⟩
    rcases List.mem_cons.mp hi with rfl | hi
    · exact h4
    · exact h2 i hi

/-- Where the conjunction of all entries of an array is one, each is. -/
theorem reduce_andi_one {s u : Shape} {axes : List (Fin s.rank)} (x : s.Idx → BitVec 1) (init : u.Idx → BitVec 1) (h : s.ReducesTo axes S_)
    (hu : 0 < u.numel) (e : Host.reduce IntOp.andi x init h hu ix0 = 1#1) (i : s.Idx) : x i = 1#1 := by
  rw [Host.reduce_eq_foldl] at e
  refine (foldl_andi_one x _ _ e).2 i ?_
  rw [List.mem_filter]
  refine ⟨List.mem_map.mpr ⟨s.rowMajor i, List.mem_finRange _, s.rowMajor.symm_apply_apply i⟩, ?_⟩
  exact decide_eq_true (funext fun b => b.elim0)

/-- An extended real of magnitude below ⊤ is real. -/
theorem real_of_lt (x : EReal) (h : FloatOps.cmpf (F := Ideal) (φ := .f32) .olt (FloatOps.absf (F := Ideal) (φ := .f32) x) (Ideal.ofBits FTy.f32 0x7F800000#32) = 1#1) :
    ∃ r : ℝ, x = (r : EReal) := by
  have ht : Ideal.ofBits FTy.f32 0x7F800000#32 = (⊤ : EReal) := by simp [Ideal.ofBits, Ideal.ieee]
  rw [ht] at h
  change BitVec.ofBool (decide (max x (-x) < ⊤)) = 1#1 at h
  have hl : max x (-x) < ⊤ := by
    by_contra hn
    rw [decide_eq_false hn] at h
    exact absurd h (by decide)
  induction x with
  | bot => exact absurd (lt_of_le_of_lt (le_max_right _ _) hl) (by rw [EReal.neg_bot]; exact lt_irrefl _)
  | top => exact absurd (lt_of_le_of_lt (le_max_left _ _) hl) (lt_irrefl _)
  | coe r => exact ⟨r, rfl⟩

/-- Where the precondition holds, the activations and the two weights are real. -/
theorem fn_one (x : FVec Ideal S1x2048x2048 .f32) (wq wk wv wo : FVec Ideal S2048x2048 .f32) (h : fn (F := Ideal) x wq wk wv wo = fun _ => 1#1) :
    (∀ i, ∃ r : ℝ, x i = (r : EReal)) ∧ (∀ i, ∃ r : ℝ, wq i = (r : EReal)) ∧ (∀ i, ∃ r : ℝ, wk i = (r : EReal)) := by
  have e := congrFun h ix0
  unfold fn at e
  dsimp only at e
  obtain ⟨e12, e3⟩ := andi_one _ _ e
  obtain ⟨e1, e2⟩ := andi_one _ _ e12
  exact ⟨fun i => real_of_lt _ (reduce_andi_one _ _ _ _ e1 i), fun i => real_of_lt _ (reduce_andi_one _ _ _ _ e2 i),
    fun i => real_of_lt _ (reduce_andi_one _ _ _ _ e3 i)⟩

end Cert.Pre_finite_factors

end
-- ==== Proof.Value.Rows.lean ====
/- The attention of the kernel and that of the reference, row by row. -/
module

public import proofs.«01_k».proof.Proof.Value.Same
public import proofs.«01_k».proof.Proof.Value.Finite

@[expose] public section

set_option maxRecDepth 16384

noncomputable section

namespace Cert.KernelIdeal.Value

open Cert.KernelIdeal Cert.KernelIdeal.Gen Cert.KernelIdeal.Whole
open Idealize.ShloMosaic Idealize.ShloMosaic.TcCoe

variable (m : (ℓ : Loc nD τ sig) → Buf (Elt Ideal) ℓ) (ρ : Dev nD → PrngReg) (c : Dev nD)
variable (V : Valuation Cert.ReferenceIdeal.τ Cert.ReferenceIdeal.sig (Elt Ideal))

/-- A projection of real activations by real weights is real. -/
theorem proj_real (hx : ∀ i, ∃ r : ℝ, aX m ρ c i = (r : EReal)) (w : FVec Ideal S2048x2048 .f32) (hw : ∀ i, ∃ r : ℝ, w i = (r : EReal))
    (s j : Fin 2048) : ∃ r : ℝ, proj m ρ c w s j = (r : EReal) := by
  choose fx hfx using hx
  choose fw hfw using hw
  refine ⟨∑ d : Fin 2048, fx (ix3 0 s d) * fw (ix2 d j), ?_⟩
  unfold proj
  rw [coe_sum]
  exact Finset.sum_congr rfl fun d _ => by rw [aXb_apply, hfx, hfw, EReal.coe_mul]

include V in
/-- So is its rotation. -/
theorem rope_real (hx : ∀ i, ∃ r : ℝ, aX m ρ c i = (r : EReal)) (w : FVec Ideal S2048x2048 .f32) (hw : ∀ i, ∃ r : ℝ, w i = (r : EReal))
    (h : Fin 16) (s : Fin 2048) (l : Fin 128) : ∃ r : ℝ, rope m ρ c w h s l = (r : EReal) := by
  obtain ⟨p1, h1⟩ := proj_real m ρ c hx w hw s (col h l)
  obtain ⟨p2, h2⟩ := proj_real m ρ c hx w hw s (col h (half l))
  obtain ⟨a, ha⟩ := aCos_real m ρ c V s l
  obtain ⟨b, hb⟩ := aSin_real m ρ c V s l
  unfold rope sinn
  rw [h1, h2, ha]
  simp only [hb]
  split
  · exact ⟨p1 * a + p2 * (0 - b), by rw [EReal.coe_add, EReal.coe_mul, EReal.coe_mul, EReal.coe_sub, EReal.coe_zero]⟩
  · exact ⟨p1 * a + p2 * b, by rw [EReal.coe_add, EReal.coe_mul, EReal.coe_mul]⟩

/-- A real score: the product of a query and a key, scaled. -/
def score (q k : Fin 16 → Fin 2048 → Fin 128 → ℝ) (h : Fin 16) (s p : Fin 2048) : ℝ := (∑ d : Fin 128, q h s d * k h p d) * (Real.sqrt 128)⁻¹

variable (q k : Fin 16 → Fin 2048 → Fin 128 → ℝ)

/-- The kernel scales the query before the product. -/
theorem sc_real (hq : ∀ h s l, rope m ρ c (aWq m ρ c) h s l = (q h s l : EReal)) (hk : ∀ h s l, rope m ρ c (aWk m ρ c) h s l = (k h s l : EReal))
    (h : Fin 16) (s p : Fin 2048) : sc m ρ c h s p = (score q k h s p : EReal) := by
  unfold sc score
  rw [Finset.sum_mul, coe_sum]
  refine Finset.sum_congr rfl fun d _ => ?_
  rw [aQb_apply, aKb_apply, hq, hk]
  unfold cinv
  rw [← EReal.coe_mul, ← EReal.coe_mul]
  congr 1
  ring

/-- The positions that a row reads. -/
def allowed (s p : Fin 2048) : Prop := Cert.ReferenceIdeal.Value.kept (fun j => Cert.ReferenceIdeal.Value.rImp V (ix1 j)) p ∧ p.val ≤ s.val

/-- Every row reads position 0. -/
theorem allowed_first (s : Fin 2048) : allowed V s ⟨0, by omega⟩ := ⟨fun h => absurd h.1 (by decide), Nat.zero_le _⟩

open Classical in
/-- The kernel's attention of a row, over the first `n` positions, is the softmax over the positions that the row reads. -/
theorem att_row (H : SameArgs m ρ c V) (n : ℕ) (hn : n ≤ 2048) (h : Fin 16) (s : Fin 2048) (hs : s.val < n) (l : Fin 128)
    (hsc : ∀ p, sc m ρ c h s p = (score q k h s p : EReal)) :
    att (fun p : Fin n => sc m ρ c h s ⟨p.val, p.isLt.trans_le hn⟩) (fun p => bias m ρ c s ⟨p.val, p.isLt.trans_le hn⟩)
        (fun p => aVb m ρ c (ix3 h ⟨p.val, p.isLt.trans_le hn⟩ l))
      = soft (Finset.univ.filter (allowed V s)) (score q k h s) (fun p => aVb m ρ c (ix3 h p l)) := by
  have e1 : (fun p : Fin n => sc m ρ c h s ⟨p.val, p.isLt.trans_le hn⟩) = fun p => ((score q k h s (Fin.castLEEmb hn p) : ℝ) : EReal) :=
    funext fun p => hsc _
  have e2 : (fun p : Fin n => bias m ρ c s ⟨p.val, p.isLt.trans_le hn⟩) = fun p => if allowed V s (Fin.castLEEmb hn p) then 0 else ⊥ :=
    funext fun p => (bias_same m ρ c V H s _).trans (if_congr Iff.rfl rfl rfl)
  rw [e1, e2, att_eq_soft (fun p => score q k h s (Fin.castLEEmb hn p)) (fun p => allowed V s (Fin.castLEEmb hn p)) _
    ⟨⟨0, by omega⟩, allowed_first V s⟩]
  have e3 : Finset.univ.filter (allowed V s) = (Finset.univ.filter fun p => allowed V s (Fin.castLEEmb hn p)).map (Fin.castLEEmb hn) := by
    ext p
    simp only [Finset.mem_filter, Finset.mem_univ, true_and, Finset.mem_map]
    constructor
    · intro hp
      exact ⟨⟨p.val, lt_of_le_of_lt hp.2 hs⟩, hp, rfl⟩
    · rintro ⟨p', hp, rfl⟩
      exact hp
  rw [e3, soft_map]
  rfl

/-- The maximum over a set, in the two ways it is written. -/
theorem fold_max {ι : Type} (A : Finset ι) (f : ι → EReal) :
    A.fold (FloatOps.maximumf : Ideal .f32 → Ideal .f32 → Ideal .f32) (⊥ : EReal) f = A.fold max ⊥ f := rfl

/-- The reference's mask of a listed position. -/
theorem mask_read (b : BitVec 32) (s p : Fin 2048) (hb : b = BitVec.ofNat 32 p.val) :
    Scalar.select (IntOp.cmpi CmpIPredicate.sle b (BitVec.ofNat 32 s.val)) (0 : EReal) ⊥ = if p.val ≤ s.val then 0 else ⊥ := by
  subst hb
  have hi : ∀ p : Fin 2048, (BitVec.ofNat 32 p.val).toInt = p.val := by
    intro p
    have := p.isLt
    rw [BitVec.toInt_eq_toNat_of_lt (by rw [BitVec.toNat_ofNat]; omega), BitVec.toNat_ofNat]
    omega
  simp only [IntOp.cmpi, BitVec.sle, hi, Nat.cast_le]
  by_cases hl : p.val ≤ s.val
  · rw [if_pos hl, decide_eq_true hl]; rfl
  · rw [if_neg hl, decide_eq_false hl]; rfl

open Classical in
/-- The reference's attention of a row is the same softmax. -/
theorem rA_row (H : SameArgs m ρ c V) (hq : ∀ h s l, rope m ρ c (aWq m ρ c) h s l = (q h s l : EReal))
    (hk : ∀ h s l, rope m ρ c (aWk m ρ c) h s l = (k h s l : EReal)) (h : Fin 16) (s : Fin 2048) (l : Fin 128) :
    Cert.ReferenceIdeal.Value.rA V (ix4 0 h s l) = soft (Finset.univ.filter (allowed V s)) (score q k h s) (fun p => aVb m ρ c (ix3 h p l)) := by
  obtain ⟨e, he, hr⟩ := Cert.ReferenceIdeal.Value.rPos_read V
  have hS : ∀ x, Cert.ReferenceIdeal.Value.rS V (ix4 0 h s x) = ((score q k h s (e x) : ℝ) : EReal) + (if (e x).val ≤ s.val then 0 else ⊥) := by
    intro x
    rw [Cert.ReferenceIdeal.Value.rS_apply, ofBits_neg_inf, mask_read (Cert.ReferenceIdeal.Value.rPos V (ix1 x)) s (e x) (he x), Cert.ReferenceIdeal.Value.rScale_eq]
    congr 1
    unfold score
    rw [EReal.coe_mul, coe_sum]
    congr 1
    refine Finset.sum_congr rfl fun d _ => ?_
    unfold Cert.ReferenceIdeal.Value.rKG
    rw [Cert.ReferenceIdeal.Value.take_read _ _ h x d (e x) (Cert.ReferenceIdeal.Value.rI1_apply V x (e x) (he x)), rQ_same m ρ c V H, rK_same m ρ c V H, hq, hk, EReal.coe_mul]
  have hV : ∀ x, Cert.ReferenceIdeal.Value.rVG V (ix4 0 h x l) = aVb m ρ c (ix3 h (e x) l) := by
    intro x
    unfold Cert.ReferenceIdeal.Value.rVG
    rw [Cert.ReferenceIdeal.Value.take_read _ _ h x l (e x) (Cert.ReferenceIdeal.Value.rI2_apply V x (e x) (he x)), rV_same m ρ c V H]
  obtain ⟨x0, hx0⟩ := (hr ⟨0, by omega⟩).mpr (allowed_first V s).1
  have hne : ∃ x, (e x).val ≤ s.val := ⟨x0, by rw [hx0]; exact Nat.zero_le _⟩
  obtain ⟨μ, hμ⟩ := max_real (fun x => score q k h s (e x)) (fun x => (e x).val ≤ s.val) hne
  have hE : ∀ x, Cert.ReferenceIdeal.Value.rE V (ix4 0 h s x)
      = Ideal.exp (((score q k h s (e x) : ℝ) : EReal) + (if (e x).val ≤ s.val then 0 else ⊥) - (μ : EReal)) := by
    intro x
    rw [Cert.ReferenceIdeal.Value.rE_eq, Cert.ReferenceIdeal.Value.expOf_apply, Cert.ReferenceIdeal.Value.maxOf_apply, ofBits_neg_inf, fold_max]
    simp only [hS]
    rw [hμ]
  rw [Cert.ReferenceIdeal.Value.rA_apply]
  simp only [hE, hV]
  rw [shifted_eq_soft (fun x => score q k h s (e x)) (fun x => (e x).val ≤ s.val) (fun x => aVb m ρ c (ix3 h (e x) l)) hne μ]
  have e3 : Finset.univ.filter (allowed V s) = (Finset.univ.filter fun x => (e x).val ≤ s.val).map e := by
    ext p
    simp only [Finset.mem_filter, Finset.mem_univ, true_and, Finset.mem_map]
    constructor
    · intro hp
      obtain ⟨x, rfl⟩ := (hr p).mpr hp.1
      exact ⟨x, hp.2, rfl⟩
    · rintro ⟨x, hx, rfl⟩
      exact ⟨(hr _).mp ⟨x, rfl⟩, hx⟩
  rw [e3, soft_map]

end Cert.KernelIdeal.Value

end
-- ==== Proof.Value.Att0.lean ====
/- Rows 0 to 511 of the attention's result, that region 3 leaves, read at an index. -/
module

public import proofs.«01_k».proof.Proof.Value.Att

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

/-- An entry of the mask, of the positions. -/
theorem k3_pay1_apply (p : Vec Ideal S1x512 .i32) (r : Fin 512) (k : Fin 512) :
    k3_pay1 (F := Ideal) p (ix2 r k) = if (p (ix2 0 k)).toInt ≤ ((0 + r.val : ℕ) : ℤ) then 0 else ⊥ := by
  rw [← bias_read _ _ _ (by omega)]
  pointwise [k3_pay1]

/-- An entry of a step's attention, of the blocks it reads. -/
theorem k3_pay2_apply (q : Vec Ideal S1x512x128 .bf16) (k v : Vec Ideal S1x512x128 .bf16) (b : Vec Ideal S512x512 .f32)
    (r : Fin 512) (d : Fin 128) :
    k3_pay2 q k b v (ix2 r d)
      = att (fun p : Fin 512 => ∑ e : Fin 128, q (ix3 0 r e) * k (ix3 0 p e)) (fun p => b (ix2 r p)) (fun p => v (ix3 0 p d)) := by
  unfold att
  pointwise [k3_pay2]

variable (m : (ℓ : Loc nD τ sig) → Buf (Elt Ideal) ℓ) (ρ : Dev nD → PrngReg)

/-- The block that each step has in window 0. -/
theorem idx3_0 : ∀ t : Fin grid3.N, win3_0.index t = ![t.val, 0, 0] := by decide +kernel
/-- The block that each step has in window 1. -/
theorem idx3_1 : ∀ t : Fin grid3.N, win3_1.index t = ![t.val, 0, 0] := by decide +kernel
/-- The block that each step has in window 2. -/
theorem idx3_2 : ∀ t : Fin grid3.N, win3_2.index t = ![t.val, 0, 0] := by decide +kernel
/-- The block that each step has in window 3. -/
theorem idx3_3 : ∀ t : Fin grid3.N, win3_3.index t = ![0, 0] := by decide +kernel
/-- The block that each step has in window 4. -/
theorem idx3_4 : ∀ t : Fin grid3.N, win3_4.index t = ![0, t.val] := by decide +kernel

/-- The head that a point works on. -/
def hd3 (t : Fin cfg3.N) : Fin 16 := ⟨t.val, t.isLt⟩

/-- An entry of step `t`'s block of the queries. -/
theorem x3_0_apply (c : Dev nD) (t : Fin cfg3.N) (r : Fin 512) (d : Fin 128) :
    (x3_0 (V8 m ρ) c t : Vec Ideal S1x512x128 .bf16) (ix3 0 r d) = aQb m ρ c (ix3 (hd3 t) ⟨r.val, by omega⟩ d) := by
  rw [← W8_q]
  refine congrArg (W8 m ρ c (Proc.devRef .tc main_v22_2)) ?_
  funext a; apply Fin.ext; fin_cases a <;> blk_simp [idx3_0] <;> simp [hd3]
/-- An entry of step `t`'s block of the keys. -/
theorem x3_1_apply (c : Dev nD) (t : Fin cfg3.N) (p : Fin 512) (d : Fin 128) :
    (x3_1 (V8 m ρ) c t : Vec Ideal S1x512x128 .bf16) (ix3 0 p d) = aKb m ρ c (ix3 (hd3 t) ⟨p.val, by omega⟩ d) := by
  rw [← W8_k]
  refine congrArg (W8 m ρ c (Proc.devRef .tc main_v22_3)) ?_
  funext a; apply Fin.ext; fin_cases a <;> blk_simp [idx3_1] <;> simp [hd3]
/-- An entry of step `t`'s block of the values. -/
theorem x3_2_apply (c : Dev nD) (t : Fin cfg3.N) (p : Fin 512) (d : Fin 128) :
    (x3_2 (V8 m ρ) c t : Vec Ideal S1x512x128 .bf16) (ix3 0 p d) = aVb m ρ c (ix3 (hd3 t) ⟨p.val, by omega⟩ d) := by
  rw [← W8_v]
  refine congrArg (W8 m ρ c (Proc.devRef .tc main_v22_4)) ?_
  funext a; apply Fin.ext; fin_cases a <;> blk_simp [idx3_2] <;> simp [hd3]
/-- An entry of step `t`'s block of the positions. -/
theorem x3_3_apply (c : Dev nD) (t : Fin cfg3.N) (p : Fin 512) :
    (x3_3 (V8 m ρ) c t : Vec Ideal S8x512 .i32) (ix2 0 p) = aPos m ρ c (ix2 0 ⟨p.val, by omega⟩) := by
  rw [← W8_p]
  refine congrArg (W8 m ρ c (Proc.devRef .tc main_v49)) ?_
  funext a; apply Fin.ext; fin_cases a <;> blk_simp [idx3_3] <;> simp

/-- An entry of the mask that the first step writes and the others find. -/
theorem mask3_apply (c : Dev nD) (t : Fin cfg3.N) (r : Fin 512) (p : Fin 512) :
    mask3 (x3_3 (V8 m ρ) c t) (ix2 r p) = bias m ρ c ⟨r.val, by omega⟩ ⟨p.val, by omega⟩ := by
  unfold mask3 bias
  frame_out
  refine (k3_pay1_apply _ r p).trans ?_
  rw [← x3_3_apply m ρ c t p]
  pointwise

/-- The block of results over the blocks of operands. -/
theorem out3_apply (x0 : Vec Ideal S1x512x128 .bf16) (x1 x2 : Vec Ideal S1x512x128 .bf16) (x3 : Vec Ideal S8x512 .i32)
    (r : Fin 512) (d : Fin 128) :
    out3_4 x0 x1 x2 x3 (ix2 r d)
      = att (fun p : Fin 512 => ∑ e : Fin 128, x0 (ix3 0 r e) * x1 (ix3 0 p e)) (fun p => mask3 x3 (ix2 r p)) (fun p => x2 (ix3 0 p d)) := by
  rw [← k3_pay2_apply]
  unfold out3_4 outM3
  generalize mask3 x3 = b
  frame_out

/-- Where an entry of window 4's block lies in its array. -/
theorem emb3_4 (t : Fin cfg3.N) (r : Fin 512) (d : Fin 128) :
    ((cfg3.win 4).blk t).view.emb (ix2 r d) = ix2 r ⟨(hd3 t).val * 128 + d.val, by omega⟩ := by
  funext a; apply Fin.ext; fin_cases a <;> blk_simp [idx3_4] <;> simp [hd3]

/-- Region 3's result array. -/
theorem aO0_apply (c : Dev nD) (r : Fin 512) (j : Fin 2048) :
    aO0 m ρ c (ix2 r j)
      = att (fun p : Fin 512 => sc m ρ c ⟨j.val / 128, by omega⟩ ⟨r.val, by omega⟩ ⟨p.val, by omega⟩)
          (fun p => bias m ρ c ⟨r.val, by omega⟩ ⟨p.val, by omega⟩)
          (fun p => aVb m ρ c (ix3 ⟨j.val / 128, by omega⟩ ⟨p.val, by omega⟩ ⟨j.val % 128, by omega⟩)) := by
  have key : aO0 m ρ c = fun y => (fun (r : Fin 512) (j : Fin 2048) =>
      att (fun p : Fin 512 => sc m ρ c ⟨j.val / 128, by omega⟩ ⟨r.val, by omega⟩ ⟨p.val, by omega⟩)
          (fun p => bias m ρ c ⟨r.val, by omega⟩ ⟨p.val, by omega⟩)
          (fun p => aVb m ρ c (ix3 ⟨j.val / 128, by omega⟩ ⟨p.val, by omega⟩ ⟨j.val % 128, by omega⟩))) (y 0) (y 1) := by
    refine (W9_arr m ρ c 4).trans ?_
    refine (dat3 (V8 m ρ) c).arrAt_eq_of_covers 4 _ (by decide +kernel) fun t hf y => ?_
    idx_vars y
    rw [after3_4, emb3_4]
    blk_simp
    refine (out3_apply (x3_0 (V8 m ρ) c t) (x3_1 (V8 m ρ) c t) (x3_2 (V8 m ρ) c t) (x3_3 (V8 m ρ) c t) y0 y1).trans ?_
    have h1 : ((hd3 t).val * 128 + y1.val) / 128 = (hd3 t).val := by omega
    have h2 : ((hd3 t).val * 128 + y1.val) % 128 = y1.val := by omega
    simp only [x3_0_apply, x3_1_apply, x3_2_apply, mask3_apply]
    show _ = att (fun p : Fin 512 => sc m ρ c ⟨((hd3 t).val * 128 + y1.val) / 128, _⟩ ⟨y0.val, _⟩ ⟨p.val, _⟩)
          (fun p => bias m ρ c ⟨y0.val, _⟩ ⟨p.val, _⟩)
          (fun p => aVb m ρ c (ix3 ⟨((hd3 t).val * 128 + y1.val) / 128, _⟩ ⟨p.val, _⟩ ⟨((hd3 t).val * 128 + y1.val) % 128, _⟩))
    simp only [h1, h2]
    rfl
  rw [key]; rfl

end Cert.KernelIdeal.Value

end
-- ==== Proof.Value.Att1.lean ====
/- Rows 512 to 1023 of the attention's result, that region 4 leaves, read at an index. -/
module

public import proofs.«01_k».proof.Proof.Value.Att

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

/-- An entry of the mask, of the positions. -/
theorem k4_pay1_apply (p : Vec Ideal S1x1024 .i32) (r : Fin 512) (k : Fin 1024) :
    k4_pay1 (F := Ideal) p (ix2 r k) = if (p (ix2 0 k)).toInt ≤ ((512 + r.val : ℕ) : ℤ) then 0 else ⊥ := by
  rw [← bias_read _ _ _ (by omega)]
  pointwise [k4_pay1]

/-- An entry of a step's attention, of the blocks it reads. -/
theorem k4_pay2_apply (q : Vec Ideal S1x512x128 .bf16) (k v : Vec Ideal S1x1024x128 .bf16) (b : Vec Ideal S512x1024 .f32)
    (r : Fin 512) (d : Fin 128) :
    k4_pay2 q k b v (ix2 r d)
      = att (fun p : Fin 1024 => ∑ e : Fin 128, q (ix3 0 r e) * k (ix3 0 p e)) (fun p => b (ix2 r p)) (fun p => v (ix3 0 p d)) := by
  unfold att
  pointwise [k4_pay2]

variable (m : (ℓ : Loc nD τ sig) → Buf (Elt Ideal) ℓ) (ρ : Dev nD → PrngReg)

/-- The block that each step has in window 0. -/
theorem idx4_0 : ∀ t : Fin grid4.N, win4_0.index t = ![t.val, 1, 0] := by decide +kernel
/-- The block that each step has in window 1. -/
theorem idx4_1 : ∀ t : Fin grid4.N, win4_1.index t = ![t.val, 0, 0] := by decide +kernel
/-- The block that each step has in window 2. -/
theorem idx4_2 : ∀ t : Fin grid4.N, win4_2.index t = ![t.val, 0, 0] := by decide +kernel
/-- The block that each step has in window 3. -/
theorem idx4_3 : ∀ t : Fin grid4.N, win4_3.index t = ![0, 0] := by decide +kernel
/-- The block that each step has in window 4. -/
theorem idx4_4 : ∀ t : Fin grid4.N, win4_4.index t = ![0, t.val] := by decide +kernel

/-- The head that a point works on. -/
def hd4 (t : Fin cfg4.N) : Fin 16 := ⟨t.val, t.isLt⟩

/-- An entry of step `t`'s block of the queries. -/
theorem x4_0_apply (c : Dev nD) (t : Fin cfg4.N) (r : Fin 512) (d : Fin 128) :
    (x4_0 (V9 m ρ) c t : Vec Ideal S1x512x128 .bf16) (ix3 0 r d) = aQb m ρ c (ix3 (hd4 t) ⟨512 + r.val, by omega⟩ d) := by
  rw [← W9_q]
  refine congrArg (W9 m ρ c (Proc.devRef .tc main_v22_2)) ?_
  funext a; apply Fin.ext; fin_cases a <;> blk_simp [idx4_0] <;> simp [hd4]
/-- An entry of step `t`'s block of the keys. -/
theorem x4_1_apply (c : Dev nD) (t : Fin cfg4.N) (p : Fin 1024) (d : Fin 128) :
    (x4_1 (V9 m ρ) c t : Vec Ideal S1x1024x128 .bf16) (ix3 0 p d) = aKb m ρ c (ix3 (hd4 t) ⟨p.val, by omega⟩ d) := by
  rw [← W9_k]
  refine congrArg (W9 m ρ c (Proc.devRef .tc main_v22_3)) ?_
  funext a; apply Fin.ext; fin_cases a <;> blk_simp [idx4_1] <;> simp [hd4]
/-- An entry of step `t`'s block of the values. -/
theorem x4_2_apply (c : Dev nD) (t : Fin cfg4.N) (p : Fin 1024) (d : Fin 128) :
    (x4_2 (V9 m ρ) c t : Vec Ideal S1x1024x128 .bf16) (ix3 0 p d) = aVb m ρ c (ix3 (hd4 t) ⟨p.val, by omega⟩ d) := by
  rw [← W9_v]
  refine congrArg (W9 m ρ c (Proc.devRef .tc main_v22_4)) ?_
  funext a; apply Fin.ext; fin_cases a <;> blk_simp [idx4_2] <;> simp [hd4]
/-- An entry of step `t`'s block of the positions. -/
theorem x4_3_apply (c : Dev nD) (t : Fin cfg4.N) (p : Fin 1024) :
    (x4_3 (V9 m ρ) c t : Vec Ideal S8x1024 .i32) (ix2 0 p) = aPos m ρ c (ix2 0 ⟨p.val, by omega⟩) := by
  rw [← W9_p]
  refine congrArg (W9 m ρ c (Proc.devRef .tc main_v49)) ?_
  funext a; apply Fin.ext; fin_cases a <;> blk_simp [idx4_3] <;> simp

/-- An entry of the mask that the first step writes and the others find. -/
theorem mask4_apply (c : Dev nD) (t : Fin cfg4.N) (r : Fin 512) (p : Fin 1024) :
    mask4 (x4_3 (V9 m ρ) c t) (ix2 r p) = bias m ρ c ⟨512 + r.val, by omega⟩ ⟨p.val, by omega⟩ := by
  unfold mask4 bias
  frame_out
  refine (k4_pay1_apply _ r p).trans ?_
  rw [← x4_3_apply m ρ c t p]
  pointwise

/-- The block of results over the blocks of operands. -/
theorem out4_apply (x0 : Vec Ideal S1x512x128 .bf16) (x1 x2 : Vec Ideal S1x1024x128 .bf16) (x3 : Vec Ideal S8x1024 .i32)
    (r : Fin 512) (d : Fin 128) :
    out4_4 x0 x1 x2 x3 (ix2 r d)
      = att (fun p : Fin 1024 => ∑ e : Fin 128, x0 (ix3 0 r e) * x1 (ix3 0 p e)) (fun p => mask4 x3 (ix2 r p)) (fun p => x2 (ix3 0 p d)) := by
  rw [← k4_pay2_apply]
  unfold out4_4 outM4
  generalize mask4 x3 = b
  frame_out

/-- Where an entry of window 4's block lies in its array. -/
theorem emb4_4 (t : Fin cfg4.N) (r : Fin 512) (d : Fin 128) :
    ((cfg4.win 4).blk t).view.emb (ix2 r d) = ix2 r ⟨(hd4 t).val * 128 + d.val, by omega⟩ := by
  funext a; apply Fin.ext; fin_cases a <;> blk_simp [idx4_4] <;> simp [hd4]

/-- Region 4's result array. -/
theorem aO1_apply (c : Dev nD) (r : Fin 512) (j : Fin 2048) :
    aO1 m ρ c (ix2 r j)
      = att (fun p : Fin 1024 => sc m ρ c ⟨j.val / 128, by omega⟩ ⟨512 + r.val, by omega⟩ ⟨p.val, by omega⟩)
          (fun p => bias m ρ c ⟨512 + r.val, by omega⟩ ⟨p.val, by omega⟩)
          (fun p => aVb m ρ c (ix3 ⟨j.val / 128, by omega⟩ ⟨p.val, by omega⟩ ⟨j.val % 128, by omega⟩)) := by
  have key : aO1 m ρ c = fun y => (fun (r : Fin 512) (j : Fin 2048) =>
      att (fun p : Fin 1024 => sc m ρ c ⟨j.val / 128, by omega⟩ ⟨512 + r.val, by omega⟩ ⟨p.val, by omega⟩)
          (fun p => bias m ρ c ⟨512 + r.val, by omega⟩ ⟨p.val, by omega⟩)
          (fun p => aVb m ρ c (ix3 ⟨j.val / 128, by omega⟩ ⟨p.val, by omega⟩ ⟨j.val % 128, by omega⟩))) (y 0) (y 1) := by
    refine (W10_arr m ρ c 4).trans ?_
    refine (dat4 (V9 m ρ) c).arrAt_eq_of_covers 4 _ (by decide +kernel) fun t hf y => ?_
    idx_vars y
    rw [after4_4, emb4_4]
    blk_simp
    refine (out4_apply (x4_0 (V9 m ρ) c t) (x4_1 (V9 m ρ) c t) (x4_2 (V9 m ρ) c t) (x4_3 (V9 m ρ) c t) y0 y1).trans ?_
    have h1 : ((hd4 t).val * 128 + y1.val) / 128 = (hd4 t).val := by omega
    have h2 : ((hd4 t).val * 128 + y1.val) % 128 = y1.val := by omega
    simp only [x4_0_apply, x4_1_apply, x4_2_apply, mask4_apply]
    show _ = att (fun p : Fin 1024 => sc m ρ c ⟨((hd4 t).val * 128 + y1.val) / 128, _⟩ ⟨512 + y0.val, _⟩ ⟨p.val, _⟩)
          (fun p => bias m ρ c ⟨512 + y0.val, _⟩ ⟨p.val, _⟩)
          (fun p => aVb m ρ c (ix3 ⟨((hd4 t).val * 128 + y1.val) / 128, _⟩ ⟨p.val, _⟩ ⟨((hd4 t).val * 128 + y1.val) % 128, _⟩))
    simp only [h1, h2]
    rfl
  rw [key]; rfl

end Cert.KernelIdeal.Value

end
-- ==== Proof.Value.Att2.lean ====
/- Rows 1024 to 1535 of the attention's result, that region 5 leaves, read at an index. -/
module

public import proofs.«01_k».proof.Proof.Value.Att

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

/-- An entry of the mask, of the positions. -/
theorem k5_pay1_apply (p : Vec Ideal S1x1536 .i32) (r : Fin 512) (k : Fin 1536) :
    k5_pay1 (F := Ideal) p (ix2 r k) = if (p (ix2 0 k)).toInt ≤ ((1024 + r.val : ℕ) : ℤ) then 0 else ⊥ := by
  rw [← bias_read _ _ _ (by omega)]
  pointwise [k5_pay1]

/-- An entry of a step's attention, of the blocks it reads. -/
theorem k5_pay2_apply (q : Vec Ideal S1x512x128 .bf16) (k v : Vec Ideal S1x1536x128 .bf16) (b : Vec Ideal S512x1536 .f32)
    (r : Fin 512) (d : Fin 128) :
    k5_pay2 q k b v (ix2 r d)
      = att (fun p : Fin 1536 => ∑ e : Fin 128, q (ix3 0 r e) * k (ix3 0 p e)) (fun p => b (ix2 r p)) (fun p => v (ix3 0 p d)) := by
  unfold att
  pointwise [k5_pay2]

variable (m : (ℓ : Loc nD τ sig) → Buf (Elt Ideal) ℓ) (ρ : Dev nD → PrngReg)

/-- The block that each step has in window 0. -/
theorem idx5_0 : ∀ t : Fin grid5.N, win5_0.index t = ![t.val, 2, 0] := by decide +kernel
/-- The block that each step has in window 1. -/
theorem idx5_1 : ∀ t : Fin grid5.N, win5_1.index t = ![t.val, 0, 0] := by decide +kernel
/-- The block that each step has in window 2. -/
theorem idx5_2 : ∀ t : Fin grid5.N, win5_2.index t = ![t.val, 0, 0] := by decide +kernel
/-- The block that each step has in window 3. -/
theorem idx5_3 : ∀ t : Fin grid5.N, win5_3.index t = ![0, 0] := by decide +kernel
/-- The block that each step has in window 4. -/
theorem idx5_4 : ∀ t : Fin grid5.N, win5_4.index t = ![0, t.val] := by decide +kernel

/-- The head that a point works on. -/
def hd5 (t : Fin cfg5.N) : Fin 16 := ⟨t.val, t.isLt⟩

/-- An entry of step `t`'s block of the queries. -/
theorem x5_0_apply (c : Dev nD) (t : Fin cfg5.N) (r : Fin 512) (d : Fin 128) :
    (x5_0 (V10 m ρ) c t : Vec Ideal S1x512x128 .bf16) (ix3 0 r d) = aQb m ρ c (ix3 (hd5 t) ⟨1024 + r.val, by omega⟩ d) := by
  rw [← W10_q]
  refine congrArg (W10 m ρ c (Proc.devRef .tc main_v22_2)) ?_
  funext a; apply Fin.ext; fin_cases a <;> blk_simp [idx5_0] <;> simp [hd5]
/-- An entry of step `t`'s block of the keys. -/
theorem x5_1_apply (c : Dev nD) (t : Fin cfg5.N) (p : Fin 1536) (d : Fin 128) :
    (x5_1 (V10 m ρ) c t : Vec Ideal S1x1536x128 .bf16) (ix3 0 p d) = aKb m ρ c (ix3 (hd5 t) ⟨p.val, by omega⟩ d) := by
  unfold x5_1
  unfold Pipeline.Window.fill
  rw [dif_pos (moved5_1 t _)]
  rw [← W10_k]
  refine congrArg (W10 m ρ c (Proc.devRef .tc main_v22_3)) ?_
  funext a; apply Fin.ext; fin_cases a <;> blk_simp [idx5_1] <;> simp [hd5]
/-- An entry of step `t`'s block of the values. -/
theorem x5_2_apply (c : Dev nD) (t : Fin cfg5.N) (p : Fin 1536) (d : Fin 128) :
    (x5_2 (V10 m ρ) c t : Vec Ideal S1x1536x128 .bf16) (ix3 0 p d) = aVb m ρ c (ix3 (hd5 t) ⟨p.val, by omega⟩ d) := by
  unfold x5_2
  unfold Pipeline.Window.fill
  rw [dif_pos (moved5_2 t _)]
  rw [← W10_v]
  refine congrArg (W10 m ρ c (Proc.devRef .tc main_v22_4)) ?_
  funext a; apply Fin.ext; fin_cases a <;> blk_simp [idx5_2] <;> simp [hd5]
/-- An entry of step `t`'s block of the positions. -/
theorem x5_3_apply (c : Dev nD) (t : Fin cfg5.N) (p : Fin 1536) :
    (x5_3 (V10 m ρ) c t : Vec Ideal S8x1536 .i32) (ix2 0 p) = aPos m ρ c (ix2 0 ⟨p.val, by omega⟩) := by
  unfold x5_3
  unfold Pipeline.Window.fill
  rw [dif_pos (moved5_3 t _)]
  rw [← W10_p]
  refine congrArg (W10 m ρ c (Proc.devRef .tc main_v49)) ?_
  funext a; apply Fin.ext; fin_cases a <;> blk_simp [idx5_3] <;> simp

/-- An entry of the mask that the first step writes and the others find. -/
theorem mask5_apply (c : Dev nD) (t : Fin cfg5.N) (r : Fin 512) (p : Fin 1536) :
    mask5 (x5_3 (V10 m ρ) c t) (ix2 r p) = bias m ρ c ⟨1024 + r.val, by omega⟩ ⟨p.val, by omega⟩ := by
  unfold mask5 bias
  frame_out
  refine (k5_pay1_apply _ r p).trans ?_
  rw [← x5_3_apply m ρ c t p]
  pointwise

/-- The block of results over the blocks of operands. -/
theorem out5_apply (x0 : Vec Ideal S1x512x128 .bf16) (x1 x2 : Vec Ideal S1x1536x128 .bf16) (x3 : Vec Ideal S8x1536 .i32)
    (r : Fin 512) (d : Fin 128) :
    out5_4 x0 x1 x2 x3 (ix2 r d)
      = att (fun p : Fin 1536 => ∑ e : Fin 128, x0 (ix3 0 r e) * x1 (ix3 0 p e)) (fun p => mask5 x3 (ix2 r p)) (fun p => x2 (ix3 0 p d)) := by
  rw [← k5_pay2_apply]
  unfold out5_4 outM5
  generalize mask5 x3 = b
  frame_out

/-- Where an entry of window 4's block lies in its array. -/
theorem emb5_4 (t : Fin cfg5.N) (r : Fin 512) (d : Fin 128) :
    ((cfg5.win 4).blk t).view.emb (ix2 r d) = ix2 r ⟨(hd5 t).val * 128 + d.val, by omega⟩ := by
  funext a; apply Fin.ext; fin_cases a <;> blk_simp [idx5_4] <;> simp [hd5]

/-- Region 5's result array. -/
theorem aO2_apply (c : Dev nD) (r : Fin 512) (j : Fin 2048) :
    aO2 m ρ c (ix2 r j)
      = att (fun p : Fin 1536 => sc m ρ c ⟨j.val / 128, by omega⟩ ⟨1024 + r.val, by omega⟩ ⟨p.val, by omega⟩)
          (fun p => bias m ρ c ⟨1024 + r.val, by omega⟩ ⟨p.val, by omega⟩)
          (fun p => aVb m ρ c (ix3 ⟨j.val / 128, by omega⟩ ⟨p.val, by omega⟩ ⟨j.val % 128, by omega⟩)) := by
  have key : aO2 m ρ c = fun y => (fun (r : Fin 512) (j : Fin 2048) =>
      att (fun p : Fin 1536 => sc m ρ c ⟨j.val / 128, by omega⟩ ⟨1024 + r.val, by omega⟩ ⟨p.val, by omega⟩)
          (fun p => bias m ρ c ⟨1024 + r.val, by omega⟩ ⟨p.val, by omega⟩)
          (fun p => aVb m ρ c (ix3 ⟨j.val / 128, by omega⟩ ⟨p.val, by omega⟩ ⟨j.val % 128, by omega⟩))) (y 0) (y 1) := by
    refine (W11_arr m ρ c 4).trans ?_
    refine (dat5 (V10 m ρ) c).arrAt_eq_of_covers 4 _ (by decide +kernel) fun t hf y => ?_
    idx_vars y
    rw [after5_4, emb5_4]
    blk_simp
    refine (out5_apply (x5_0 (V10 m ρ) c t) (x5_1 (V10 m ρ) c t) (x5_2 (V10 m ρ) c t) (x5_3 (V10 m ρ) c t) y0 y1).trans ?_
    have h1 : ((hd5 t).val * 128 + y1.val) / 128 = (hd5 t).val := by omega
    have h2 : ((hd5 t).val * 128 + y1.val) % 128 = y1.val := by omega
    simp only [x5_0_apply, x5_1_apply, x5_2_apply, mask5_apply]
    show _ = att (fun p : Fin 1536 => sc m ρ c ⟨((hd5 t).val * 128 + y1.val) / 128, _⟩ ⟨1024 + y0.val, _⟩ ⟨p.val, _⟩)
          (fun p => bias m ρ c ⟨1024 + y0.val, _⟩ ⟨p.val, _⟩)
          (fun p => aVb m ρ c (ix3 ⟨((hd5 t).val * 128 + y1.val) / 128, _⟩ ⟨p.val, _⟩ ⟨((hd5 t).val * 128 + y1.val) % 128, _⟩))
    simp only [h1, h2]
    rfl
  rw [key]; rfl

end Cert.KernelIdeal.Value

end
-- ==== Proof.Value.Att3.lean ====
/- Rows 1536 to 2047 of the attention's result, that region 6 leaves, read at an index. -/
module

public import proofs.«01_k».proof.Proof.Value.Att

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

/-- An entry of the mask, of the positions. -/
theorem k6_pay1_apply (p : Vec Ideal S1x2048 .i32) (r : Fin 512) (k : Fin 2048) :
    k6_pay1 (F := Ideal) p (ix2 r k) = if (p (ix2 0 k)).toInt ≤ ((1536 + r.val : ℕ) : ℤ) then 0 else ⊥ := by
  rw [← bias_read _ _ _ (by omega)]
  pointwise [k6_pay1]

/-- An entry of a step's attention, of the blocks it reads. -/
theorem k6_pay2_apply (q : Vec Ideal S1x512x128 .bf16) (k v : Vec Ideal S1x2048x128 .bf16) (b : Vec Ideal S512x2048 .f32)
    (r : Fin 512) (d : Fin 128) :
    k6_pay2 q k b v (ix2 r d)
      = att (fun p : Fin 2048 => ∑ e : Fin 128, q (ix3 0 r e) * k (ix3 0 p e)) (fun p => b (ix2 r p)) (fun p => v (ix3 0 p d)) := by
  unfold att
  pointwise [k6_pay2]

variable (m : (ℓ : Loc nD τ sig) → Buf (Elt Ideal) ℓ) (ρ : Dev nD → PrngReg)

/-- The block that each step has in window 0. -/
theorem idx6_0 : ∀ t : Fin grid6.N, win6_0.index t = ![t.val, 3, 0] := by decide +kernel
/-- The block that each step has in window 1. -/
theorem idx6_1 : ∀ t : Fin grid6.N, win6_1.index t = ![t.val, 0, 0] := by decide +kernel
/-- The block that each step has in window 2. -/
theorem idx6_2 : ∀ t : Fin grid6.N, win6_2.index t = ![t.val, 0, 0] := by decide +kernel
/-- The block that each step has in window 3. -/
theorem idx6_3 : ∀ t : Fin grid6.N, win6_3.index t = ![0, 0] := by decide +kernel
/-- The block that each step has in window 4. -/
theorem idx6_4 : ∀ t : Fin grid6.N, win6_4.index t = ![0, t.val] := by decide +kernel

/-- The head that a point works on. -/
def hd6 (t : Fin cfg6.N) : Fin 16 := ⟨t.val, t.isLt⟩

/-- An entry of step `t`'s block of the queries. -/
theorem x6_0_apply (c : Dev nD) (t : Fin cfg6.N) (r : Fin 512) (d : Fin 128) :
    (x6_0 (V11 m ρ) c t : Vec Ideal S1x512x128 .bf16) (ix3 0 r d) = aQb m ρ c (ix3 (hd6 t) ⟨1536 + r.val, by omega⟩ d) := by
  rw [← W11_q]
  refine congrArg (W11 m ρ c (Proc.devRef .tc main_v22_2)) ?_
  funext a; apply Fin.ext; fin_cases a <;> blk_simp [idx6_0] <;> simp [hd6]
/-- An entry of step `t`'s block of the keys. -/
theorem x6_1_apply (c : Dev nD) (t : Fin cfg6.N) (p : Fin 2048) (d : Fin 128) :
    (x6_1 (V11 m ρ) c t : Vec Ideal S1x2048x128 .bf16) (ix3 0 p d) = aKb m ρ c (ix3 (hd6 t) ⟨p.val, by omega⟩ d) := by
  rw [← W11_k]
  refine congrArg (W11 m ρ c (Proc.devRef .tc main_v22_3)) ?_
  funext a; apply Fin.ext; fin_cases a <;> blk_simp [idx6_1] <;> simp [hd6]
/-- An entry of step `t`'s block of the values. -/
theorem x6_2_apply (c : Dev nD) (t : Fin cfg6.N) (p : Fin 2048) (d : Fin 128) :
    (x6_2 (V11 m ρ) c t : Vec Ideal S1x2048x128 .bf16) (ix3 0 p d) = aVb m ρ c (ix3 (hd6 t) ⟨p.val, by omega⟩ d) := by
  rw [← W11_v]
  refine congrArg (W11 m ρ c (Proc.devRef .tc main_v22_4)) ?_
  funext a; apply Fin.ext; fin_cases a <;> blk_simp [idx6_2] <;> simp [hd6]
/-- An entry of step `t`'s block of the positions. -/
theorem x6_3_apply (c : Dev nD) (t : Fin cfg6.N) (p : Fin 2048) :
    (x6_3 (V11 m ρ) c t : Vec Ideal S8x2048 .i32) (ix2 0 p) = aPos m ρ c (ix2 0 ⟨p.val, by omega⟩) := by
  rw [← W11_p]
  refine congrArg (W11 m ρ c (Proc.devRef .tc main_v49)) ?_
  funext a; apply Fin.ext; fin_cases a <;> blk_simp [idx6_3] <;> simp

/-- An entry of the mask that the first step writes and the others find. -/
theorem mask6_apply (c : Dev nD) (t : Fin cfg6.N) (r : Fin 512) (p : Fin 2048) :
    mask6 (x6_3 (V11 m ρ) c t) (ix2 r p) = bias m ρ c ⟨1536 + r.val, by omega⟩ ⟨p.val, by omega⟩ := by
  unfold mask6 bias
  frame_out
  refine (k6_pay1_apply _ r p).trans ?_
  rw [← x6_3_apply m ρ c t p]
  pointwise

/-- The block of results over the blocks of operands. -/
theorem out6_apply (x0 : Vec Ideal S1x512x128 .bf16) (x1 x2 : Vec Ideal S1x2048x128 .bf16) (x3 : Vec Ideal S8x2048 .i32)
    (r : Fin 512) (d : Fin 128) :
    out6_4 x0 x1 x2 x3 (ix2 r d)
      = att (fun p : Fin 2048 => ∑ e : Fin 128, x0 (ix3 0 r e) * x1 (ix3 0 p e)) (fun p => mask6 x3 (ix2 r p)) (fun p => x2 (ix3 0 p d)) := by
  rw [← k6_pay2_apply]
  unfold out6_4 outM6
  generalize mask6 x3 = b
  frame_out

/-- Where an entry of window 4's block lies in its array. -/
theorem emb6_4 (t : Fin cfg6.N) (r : Fin 512) (d : Fin 128) :
    ((cfg6.win 4).blk t).view.emb (ix2 r d) = ix2 r ⟨(hd6 t).val * 128 + d.val, by omega⟩ := by
  funext a; apply Fin.ext; fin_cases a <;> blk_simp [idx6_4] <;> simp [hd6]

/-- Region 6's result array. -/
theorem aO3_apply (c : Dev nD) (r : Fin 512) (j : Fin 2048) :
    aO3 m ρ c (ix2 r j)
      = att (fun p : Fin 2048 => sc m ρ c ⟨j.val / 128, by omega⟩ ⟨1536 + r.val, by omega⟩ ⟨p.val, by omega⟩)
          (fun p => bias m ρ c ⟨1536 + r.val, by omega⟩ ⟨p.val, by omega⟩)
          (fun p => aVb m ρ c (ix3 ⟨j.val / 128, by omega⟩ ⟨p.val, by omega⟩ ⟨j.val % 128, by omega⟩)) := by
  have key : aO3 m ρ c = fun y => (fun (r : Fin 512) (j : Fin 2048) =>
      att (fun p : Fin 2048 => sc m ρ c ⟨j.val / 128, by omega⟩ ⟨1536 + r.val, by omega⟩ ⟨p.val, by omega⟩)
          (fun p => bias m ρ c ⟨1536 + r.val, by omega⟩ ⟨p.val, by omega⟩)
          (fun p => aVb m ρ c (ix3 ⟨j.val / 128, by omega⟩ ⟨p.val, by omega⟩ ⟨j.val % 128, by omega⟩))) (y 0) (y 1) := by
    refine (W12_arr m ρ c 4).trans ?_
    refine (dat6 (V11 m ρ) c).arrAt_eq_of_covers 4 _ (by decide +kernel) fun t hf y => ?_
    idx_vars y
    rw [after6_4, emb6_4]
    blk_simp
    refine (out6_apply (x6_0 (V11 m ρ) c t) (x6_1 (V11 m ρ) c t) (x6_2 (V11 m ρ) c t) (x6_3 (V11 m ρ) c t) y0 y1).trans ?_
    have h1 : ((hd6 t).val * 128 + y1.val) / 128 = (hd6 t).val := by omega
    have h2 : ((hd6 t).val * 128 + y1.val) % 128 = y1.val := by omega
    simp only [x6_0_apply, x6_1_apply, x6_2_apply, mask6_apply]
    show _ = att (fun p : Fin 2048 => sc m ρ c ⟨((hd6 t).val * 128 + y1.val) / 128, _⟩ ⟨1536 + y0.val, _⟩ ⟨p.val, _⟩)
          (fun p => bias m ρ c ⟨1536 + y0.val, _⟩ ⟨p.val, _⟩)
          (fun p => aVb m ρ c (ix3 ⟨((hd6 t).val * 128 + y1.val) / 128, _⟩ ⟨p.val, _⟩ ⟨((hd6 t).val * 128 + y1.val) % 128, _⟩))
    simp only [h1, h2]
    rfl
  rw [key]; rfl

end Cert.KernelIdeal.Value

end
-- ==== Proof.Value.Reg7.lean ====
/- The output projection that region 7 leaves, read at an index. -/
module

public import proofs.«01_k».proof.Proof.Value.Arrays

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.ShloMosaic.Pipeline (Dat Cfg Window)

variable (m : (ℓ : Loc nD τ sig) → Buf (Elt Ideal) ℓ) (ρ : Dev nD → PrngReg)

/-- One block of rows of the output projection. -/
theorem k7_pay1_apply (x : Vec Ideal S512x2048 .f32) (w : Vec Ideal S2048x2048 .f32) (r : Fin 512) (n : Fin 2048) :
    k7_pay1 x w (ix2 r n) = ∑ d : Fin 2048, x (ix2 r d) * w (ix2 d n) := by
  pointwise [k7_pay1]

/-- The block that each step has in window 0. -/
theorem idx7_0 : ∀ t : Fin grid7.N, win7_0.index t = ![t.val, 0] := by decide +kernel
/-- The block that each step has in window 1. -/
theorem idx7_1 : ∀ t : Fin grid7.N, win7_1.index t = ![0, 0] := by decide +kernel
/-- The block that each step has in window 2. -/
theorem idx7_2 : ∀ t : Fin grid7.N, win7_2.index t = ![t.val, 0] := by decide +kernel

/-- The output weight that region 7 reads is the argument. -/
theorem W13_arg4 (c : Dev nD) : W13 m ρ c (Proc.devRef .tc main_arg4) = aWo m ρ c :=
  (W13_args m ρ c main_arg4 (by decide)).trans (W0_args m ρ c main_arg4 (by decide)).symm

/-- The block of rows that a point reads. -/
theorem iblk7_0_apply (c : Dev nD) (t : Fin cfg7.N) (r : Fin 512) (d : Fin 2048) (hr : t.val * 512 + r.val < 2048) :
    (iblk7 (V13 m ρ) c 0 t : Vec Ideal S512x2048 .f32) (ix2 r d) = aO m ρ c (ix2 ⟨t.val * 512 + r.val, hr⟩ d) := by
  refine congrArg (aO m ρ c) ?_
  funext a; apply Fin.ext; fin_cases a <;> blk_simp [idx7_0] <;> simp

/-- The weight, which every point reads whole. -/
theorem iblk7_1_apply (c : Dev nD) (t : Fin cfg7.N) (d n : Fin 2048) :
    (iblk7 (V13 m ρ) c 1 t : Vec Ideal S2048x2048 .f32) (ix2 d n) = aWo m ρ c (ix2 d n) := by
  rw [← W13_arg4]
  refine congrArg (W13 m ρ c (Proc.devRef .tc main_arg4)) ?_
  funext a; apply Fin.ext; fin_cases a <;> blk_simp [idx7_1] <;> simp

/-- Where an entry of window 2's block lies in its array. -/
theorem emb7_2 (t : Fin cfg7.N) (y0 : Fin 512) (y1 : Fin 2048) (hr : t.val * 512 + y0.val < 2048) :
    ((cfg7.win 2).blk t).view.emb (ix2 y0 y1) = ix2 ⟨t.val * 512 + y0.val, hr⟩ y1 := by
  funext a; apply Fin.ext; fin_cases a <;> blk_simp [idx7_2] <;> simp

/-- Region 7's result array. -/
theorem aOut_apply (c : Dev nD) (s n : Fin 2048) :
    aOut m ρ c (ix2 s n) = ∑ d : Fin 2048, aO m ρ c (ix2 s d) * aWo m ρ c (ix2 d n) := by
  have key : aOut m ρ c = fun i => ∑ d : Fin 2048, aO m ρ c (ix2 (i 0) d) * aWo m ρ c (ix2 d (i 1)) := by
    refine (W14_arr m ρ c 2).trans ?_
    refine (dat7 (V13 m ρ) c).arrAt_eq_of_covers 2 _ (by decide +kernel) fun t hf y => ?_
    idx_vars y
    have hr : t.val * 512 + y0.val < 2048 := by have : t.val < 4 := t.isLt; omega
    rw [after7_2, emb7_2 t y0 y1 hr]
    blk_simp
    frame_out
    refine (k7_pay1_apply _ _ y0 y1).trans ?_
    refine Finset.sum_congr rfl fun d _ => ?_
    rw [iblk7_0_apply m ρ c t y0 d hr, iblk7_1_apply]
    rfl
  rw [key]; rfl

end Cert.KernelIdeal.Value

end
-- ==== Proof.Value.Result.lean ====
/- The kernel and the reference compute the same array of the same arguments. -/
module

public import proofs.«01_k».proof.Proof.Value.Rows
public import proofs.«01_k».proof.Proof.Value.Att0
public import proofs.«01_k».proof.Proof.Value.Att1
public import proofs.«01_k».proof.Proof.Value.Att2
public import proofs.«01_k».proof.Proof.Value.Att3
public import proofs.«01_k».proof.Proof.Value.Reg7

@[expose] public section

set_option maxRecDepth 16384

noncomputable section

namespace Cert.KernelIdeal.Value

open Cert.KernelIdeal Cert.KernelIdeal.Gen Cert.KernelIdeal.Whole
open Idealize.ShloMosaic Idealize.ShloMosaic.TcCoe

variable (m : (ℓ : Loc nD τ sig) → Buf (Elt Ideal) ℓ) (ρ : Dev nD → PrngReg) (c : Dev nD)
variable (V : Valuation Cert.ReferenceIdeal.τ Cert.ReferenceIdeal.sig (Elt Ideal))

/-- Four blocks of rows, one below another. -/
def cat4 (x y z w : FVec Ideal S512x2048 .f32) : FVec Ideal S2048x2048 .f32 :=
  concatenate S2048x2048 0 [⟨S512x2048, x⟩, ⟨S512x2048, y⟩, ⟨S512x2048, z⟩, ⟨S512x2048, w⟩] concatenates_S512x2048_S512x2048_S512x2048_S512x2048_S2048x2048_d0

/-- Equal blocks make equal arrays. -/
theorem cat4_congr {x x' y y' z z' w w' : FVec Ideal S512x2048 .f32} (hx : x = x') (hy : y = y') (hz : z = z') (hw : w = w') :
    cat4 x y z w = cat4 x' y' z' w' := by rw [hx, hy, hz, hw]

/-- An entry of the four blocks. -/
theorem cat4_apply (x y z w : FVec Ideal S512x2048 .f32) (s d : Fin 2048) : cat4 x y z w (ix2 s d) =
    if h : s.val < 512 then x (ix2 ⟨s.val, h⟩ d) else if h : s.val - 512 < 512 then y (ix2 ⟨s.val - 512, h⟩ d)
      else if h : s.val - 512 - 512 < 512 then z (ix2 ⟨s.val - 512 - 512, h⟩ d) else w (ix2 ⟨s.val - 512 - 512 - 512, by omega⟩ d) := by
  unfold cat4
  pointwise

/-- The attention's result is the four regions' blocks. -/
theorem aO_eq : aO m ρ c = cat4 (aO0 m ρ c) (aO1 m ρ c) (aO2 m ρ c) (aO3 m ρ c) := by
  unfold aO
  show (StableHlo.after hostOps7 (W12 m ρ c)) (Proc.devRef .tc main_v54) = _
  have e0 : W12 m ρ c (Proc.devRef .tc main_v50) = aO0 m ρ c :=
    (W12_of m ρ c main_v50 (by decide)).trans ((W11_of m ρ c main_v50 (by decide)).trans (W10_of m ρ c main_v50 (by decide)))
  have e1 : W12 m ρ c (Proc.devRef .tc main_v51) = aO1 m ρ c :=
    (W12_of m ρ c main_v51 (by decide)).trans (W11_of m ρ c main_v51 (by decide))
  have e2 : W12 m ρ c (Proc.devRef .tc main_v52) = aO2 m ρ c := W12_of m ρ c main_v52 (by decide)
  have e3 : W12 m ρ c (Proc.devRef .tc main_v53) = aO3 m ρ c := rfl
  generalize W12 m ρ c = U at e0 e1 e2 e3 ⊢
  unfold hostOps7
  after_results_simp
  exact cat4_congr e0 e1 e2 e3

/-- The result is the projection of the attention, with a leading axis. -/
theorem aRes_apply (s n : Fin 2048) : aRes m ρ c (ix3 0 s n) = aOut m ρ c (ix2 s n) := by
  have e : aRes m ρ c = broadcastInDim S1x2048x2048 ![1, 2] bcast_S2048x2048_S1x2048x2048_1_2 (aOut m ρ c) := by
    unfold aRes W15 hostOps8
    after_results_simp
    rfl
  rw [e]
  pointwise

variable (q k : Fin 16 → Fin 2048 → Fin 128 → ℝ)

/-- The attention of a row is the reference's. -/
theorem aO_same (H : SameArgs m ρ c V) (hq : ∀ h s l, rope m ρ c (aWq m ρ c) h s l = (q h s l : EReal))
    (hk : ∀ h s l, rope m ρ c (aWk m ρ c) h s l = (k h s l : EReal)) (s d : Fin 2048) :
    aO m ρ c (ix2 s d) = Cert.ReferenceIdeal.Value.rA V (ix4 0 ⟨d.val / 128, by omega⟩ s ⟨d.val % 128, by omega⟩) := by
  have hsc := sc_real m ρ c q k hq hk
  rw [aO_eq, cat4_apply, rA_row m ρ c V q k H hq hk]
  split
  · rename_i hs
    rw [aO0_apply]
    exact att_row m ρ c V q k H 512 (by omega) _ s hs _ (hsc _ _)
  · split
    · rename_i h0 h1
      rw [aO1_apply]
      have e : (⟨512 + (s.val - 512), by omega⟩ : Fin 2048) = s := Fin.ext (by show 512 + (s.val - 512) = s.val; omega)
      rw [e]
      exact att_row m ρ c V q k H 1024 (by omega) _ s (by omega) _ (hsc _ _)
    · split
      · rename_i h0 h1 h2
        rw [aO2_apply]
        have e : (⟨1024 + (s.val - 512 - 512), by omega⟩ : Fin 2048) = s := Fin.ext (by show 1024 + (s.val - 512 - 512) = s.val; omega)
        rw [e]
        exact att_row m ρ c V q k H 1536 (by omega) _ s (by omega) _ (hsc _ _)
      · rename_i h0 h1 h2
        rw [aO3_apply]
        have e : (⟨1536 + (s.val - 512 - 512 - 512), by omega⟩ : Fin 2048) = s := Fin.ext (by show 1536 + (s.val - 512 - 512 - 512) = s.val; omega)
        rw [e]
        exact att_row m ρ c V q k H 2048 (by omega) _ s (by omega) _ (hsc _ _)

/-- The kernel's result is the reference's, where the activations and the query and key weights are real. -/
theorem aRes_same (H : SameArgs m ρ c V) (hx : ∀ i, ∃ r : ℝ, aX m ρ c i = (r : EReal)) (hwq : ∀ i, ∃ r : ℝ, aWq m ρ c i = (r : EReal))
    (hwk : ∀ i, ∃ r : ℝ, aWk m ρ c i = (r : EReal)) : aRes m ρ c = Cert.ReferenceIdeal.Value.rOut V := by
  choose q hq using rope_real m ρ c V hx (aWq m ρ c) hwq
  choose k hk using rope_real m ρ c V hx (aWk m ρ c) hwk
  funext i
  idx_vars i
  obtain rfl : i0 = 0 := Subsingleton.elim _ _
  rw [aRes_apply, aOut_apply, Cert.ReferenceIdeal.Value.rOut_apply, H.wo]
  exact Finset.sum_congr rfl fun d _ => by rw [aO_same m ρ c V q k H hq hk]

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Result
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference terminates, leaves its arguments unchanged and ends with every counter at zero. -/
theorem frame_ReferenceIdeal : Cert.quiescent_ReferenceIdeal (hReferenceIdeal := Cert.ReferenceIdeal.Gen.facts) := by
  intro m g _
  exact (θ_run _ _ _).mono (fun r h => ⟨fun c => (h c).2, sem_eq_zero_of_no_sems rfl r.2⟩)
    (Cert.ReferenceIdeal.Value.run m g)

/-- The arguments of the two programs, where they agree. -/
theorem same_args (m : (ℓ : Loc Cert.KernelIdeal.nD Cert.KernelIdeal.τ Cert.KernelIdeal.sig) → Buf (Elt Ideal) ℓ) (g : Dev Cert.KernelIdeal.nD → PrngReg)
    (c : Dev Cert.KernelIdeal.nD) (V : Valuation Cert.ReferenceIdeal.τ Cert.ReferenceIdeal.sig (Elt Ideal))
    (h0 : (V (Proc.devRef .tc Cert.ReferenceIdeal.main_arg0) : FVec Ideal Cert.ReferenceIdeal.S1x2048x2048 .f32) = m ((c.tc : Thread Cert.KernelIdeal.nD Cert.KernelIdeal.τ).loc Cert.KernelIdeal.main_arg0))
    (h1 : (V (Proc.devRef .tc Cert.ReferenceIdeal.main_arg1) : FVec Ideal Cert.ReferenceIdeal.S2048x2048 .f32) = m ((c.tc : Thread Cert.KernelIdeal.nD Cert.KernelIdeal.τ).loc Cert.KernelIdeal.main_arg1))
    (h2 : (V (Proc.devRef .tc Cert.ReferenceIdeal.main_arg2) : FVec Ideal Cert.ReferenceIdeal.S2048x2048 .f32) = m ((c.tc : Thread Cert.KernelIdeal.nD Cert.KernelIdeal.τ).loc Cert.KernelIdeal.main_arg2))
    (h3 : (V (Proc.devRef .tc Cert.ReferenceIdeal.main_arg3) : FVec Ideal Cert.ReferenceIdeal.S2048x2048 .f32) = m ((c.tc : Thread Cert.KernelIdeal.nD Cert.KernelIdeal.τ).loc Cert.KernelIdeal.main_arg3))
    (h4 : (V (Proc.devRef .tc Cert.ReferenceIdeal.main_arg4) : FVec Ideal Cert.ReferenceIdeal.S2048x2048 .f32) = m ((c.tc : Thread Cert.KernelIdeal.nD Cert.KernelIdeal.τ).loc Cert.KernelIdeal.main_arg4)) :
    Cert.KernelIdeal.Value.SameArgs m g c V := ⟨h0, h1, h2, h3, h4⟩

/-- Where the activations and the query and key weights are finite, the two programs leave the same result. -/
theorem algebraic : Cert.algebraic_KernelIdeal_ReferenceIdeal_pre_finite_factors (hKernelIdeal := Cert.KernelIdeal.Gen.facts)
    (hReferenceIdeal := Cert.ReferenceIdeal.Gen.facts) (hPre_finite_factors := Cert.Pre_finite_factors.Gen.facts) := by
  intro m g m' g' hpre hargs
  refine ⟨fun c => Cert.KernelIdeal.Value.aRes m g c, ?_, ?_⟩
  · exact (θ_run _ _ _).mono (fun r h c => ⟨h.1 c, h.2.1 c⟩)
      (θ_run_and (Cert.KernelIdeal.Whole.result m g) (Cert.KernelIdeal.Whole.frame m g))
  · refine (θ_run _ _ _).mono (fun r h c => ⟨(h c).1.trans ?_, (h c).2⟩) (Cert.ReferenceIdeal.Value.run m' g')
    obtain ⟨hx, hq, hk⟩ := Cert.Pre_finite_factors.fn_one _ _ _ _ _ (hpre c)
    obtain ⟨h0, h1, h2, h3, h4⟩ := hargs c
    exact (Cert.KernelIdeal.Value.aRes_same m g c (StableHlo.launchContents m' c) (same_args m g c _ h0 h1 h2 h3 h4) hx hq hk).symm

/-- All the claims. -/
theorem claim : Cert.Claim := ⟨Cert.Kernel.Gen.facts, Cert.KernelIdeal.Gen.facts, Cert.ReferenceIdeal.Gen.facts,
  Cert.Pre_finite_factors.Gen.facts,
  fun m g _ => Cert.Kernel.Whole.frame m g,
  fun m g _ => Cert.KernelIdeal.Whole.frame m g,
  fun m g _ => Cert.KernelIdeal.Whole.frame m g,
  frame_ReferenceIdeal,
  fun m g _ => frame_ReferenceIdeal m g trivial,
  IdealRules.named_const.statement _ _ _ _ _ rfl,
  algebraic⟩

end Cert.Proof

end
